-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v155) = v0 c
          ∧ r.2.mem ((c.tc : Thread Cert.Reference3Ideal.nD Cert.Reference3Ideal.τ).loc Cert.Reference3Ideal.main_v159) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v77) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)) (v5 : (c : Dev Cert.Kernel5Ideal.nD) → Buf (Elt Ideal) ((c.tc : Thread Cert.Kernel5Ideal.nD Cert.Kernel5Ideal.τ).loc Cert.Kernel5Ideal.main_v19_5)) (v6 : (c : Dev Cert.Kernel5Ideal.nD) → Buf (Elt Ideal) ((c.tc : Thread Cert.Kernel5Ideal.nD Cert.Kernel5Ideal.τ).loc Cert.Kernel5Ideal.main_v19_6)) (v7 : (c : Dev Cert.Kernel5Ideal.nD) → Buf (Elt Ideal) ((c.tc : Thread Cert.Kernel5Ideal.nD Cert.Kernel5Ideal.τ).loc Cert.Kernel5Ideal.main_v19_7)) (v8 : (c : Dev Cert.Kernel5Ideal.nD) → Buf (Elt Ideal) ((c.tc : Thread Cert.Kernel5Ideal.nD Cert.Kernel5Ideal.τ).loc Cert.Kernel5Ideal.main_v19_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_v19_5) = v5 c
          ∧ r.2.mem ((c.tc : Thread Cert.Kernel5Ideal.nD Cert.Kernel5Ideal.τ).loc Cert.Kernel5Ideal.main_v19_6) = v6 c
          ∧ r.2.mem ((c.tc : Thread Cert.Kernel5Ideal.nD Cert.Kernel5Ideal.τ).loc Cert.Kernel5Ideal.main_v19_7) = v7 c
          ∧ r.2.mem ((c.tc : Thread Cert.Kernel5Ideal.nD Cert.Kernel5Ideal.τ).loc Cert.Kernel5Ideal.main_v19_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_v37) = v4 c
          ∧ r.2.mem ((c.tc : Thread Cert.Reference5Ideal.nD Cert.Reference5Ideal.τ).loc Cert.Reference5Ideal.main_v40) = v5 c
          ∧ r.2.mem ((c.tc : Thread Cert.Reference5Ideal.nD Cert.Reference5Ideal.τ).loc Cert.Reference5Ideal.main_v43) = v6 c
          ∧ r.2.mem ((c.tc : Thread Cert.Reference5Ideal.nD Cert.Reference5Ideal.τ).loc Cert.Reference5Ideal.main_v46) = v7 c
          ∧ r.2.mem ((c.tc : Thread Cert.Reference5Ideal.nD Cert.Reference5Ideal.τ).loc Cert.Reference5Ideal.main_v49) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
-- ==== Pre_finite.lean ====
abbrev S8704x8x192 : Shape := ⟨3, ![8704, 8, 192]⟩
abbrev S2x4352x8x192 : Shape := ⟨4, ![2, 4352, 8, 192]⟩
abbrev S2x4352x8x128 : Shape := ⟨4, ![2, 4352, 8, 128]⟩
abbrev S8704x9216 : Shape := ⟨2, ![8704, 9216]⟩
abbrev S512x1024 : Shape := ⟨2, ![512, 1024]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2048x5632 : Shape := ⟨3, ![2, 2048, 5632]⟩
abbrev S2x5632x2048 : Shape := ⟨3, ![2, 5632, 2048]⟩
abbrev S_ : Shape := ⟨0, ![]⟩

class Facts : Prop where
  bcast_S_S8704x8x192 : S_.BroadcastsInDim S8704x8x192 (![] : Fin 0 → Fin S8704x8x192.rank)
  bcast_S_S2x4352x8x192 : S_.BroadcastsInDim S2x4352x8x192 (![] : Fin 0 → Fin S2x4352x8x192.rank)

variable [Facts]

def fn {F : FTy → Type} [FloatOps F] (main_arg0 : FVec F S8704x8x192 .f32) (main_arg1 : FVec F S2x4352x8x192 .f32) (main_arg2 : FVec F S2x4352x8x128 .f32) (main_arg3 : FVec F S8704x9216 .bf16) (main_arg4 : FVec F S512x1024 .bf16) (main_arg5 : FVec F S2x512x2048 .f32) (main_arg6 : FVec F S2x1024x2048 .f32) (main_arg7 : FVec F S2x512x2048 .f32) (main_arg8 : FVec F S2x2048x2048 .f32) (main_arg9 : FVec F S2x2048x5632 .f32) (main_arg10 : FVec F S2x2048x5632 .f32) (main_arg11 : FVec F S2x5632x2048 .f32) : IVec S8704x8x192 1 × IVec S2x4352x8x192 1 :=
  let main_v0 : FVec F S8704x8x192 .f32 := Host.absf main_arg0
  let main_cst : FVec F S_ .f32 := constant S_ .f32 0x7F800000#32
  let main_v1 : FVec F S8704x8x192 .f32 := broadcastInDim S8704x8x192 ![] bcast_S_S8704x8x192 main_cst
  let main_v2 : IVec S8704x8x192 1 := cmpf .olt main_v0 main_v1
  let main_v3 : FVec F S2x4352x8x192 .f32 := Host.absf main_arg1
  let main_cst_0 : FVec F S_ .f32 := constant S_ .f32 0x7F800000#32
  let main_v4 : FVec F S2x4352x8x192 .f32 := broadcastInDim S2x4352x8x192 ![] bcast_S_S2x4352x8x192 main_cst_0
  let main_v5 : IVec S2x4352x8x192 1 := cmpf .olt main_v3 main_v4
  (main_v2, main_v5)
-- ==== Kernel.lean ====
abbrev S8704x2048 : Shape := ⟨2, ![8704, 2048]⟩
abbrev S2x2048x9024 : Shape := ⟨3, ![2, 2048, 9024]⟩
abbrev S2x6144 : Shape := ⟨2, ![2, 6144]⟩
abbrev S2x1x6144 : Shape := ⟨3, ![2, 1, 6144]⟩
abbrev S_ : Shape := ⟨0, ![]⟩
abbrev S2x1x3072 : Shape := ⟨3, ![2, 1, 3072]⟩
abbrev S2x1x9216 : Shape := ⟨3, ![2, 1, 9216]⟩
abbrev S2x9024x2048 : Shape := ⟨3, ![2, 9024, 2048]⟩
abbrev S8704x9216 : Shape := ⟨2, ![8704, 9216]⟩
abbrev S1088x2048 : Shape := ⟨2, ![1088, 2048]⟩
abbrev S1x1536x2048 : Shape := ⟨3, ![1, 1536, 2048]⟩
abbrev S1x1x1536 : Shape := ⟨3, ![1, 1, 1536]⟩
abbrev S1088x1536 : Shape := ⟨2, ![1088, 1536]⟩
abbrev S1536x2048 : Shape := ⟨2, ![1536, 2048]⟩
abbrev S1x1344x2048 : Shape := ⟨3, ![1, 1344, 2048]⟩
abbrev S1344x2048 : Shape := ⟨2, ![1344, 2048]⟩
abbrev S64x2048 : Shape := ⟨2, ![64, 2048]⟩
abbrev S1x32x2048 : Shape := ⟨3, ![1, 32, 2048]⟩
abbrev S32x2048 : Shape := ⟨2, ![32, 2048]⟩
abbrev S512x2048 : Shape := ⟨2, ![512, 2048]⟩
abbrev S1088x512 : Shape := ⟨2, ![1088, 512]⟩
abbrev S1x1x512 : Shape := ⟨3, ![1, 1, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2x2048x9024, .f32⟩
  | .hbm, ⟨2, _⟩ => ⟨S2x6144, .f32⟩
  | .hbm, ⟨3, _⟩ => ⟨S2x1x6144, .f32⟩
  | .hbm, ⟨4, _⟩ => ⟨S_, .f32⟩
  | .hbm, ⟨5, _⟩ => ⟨S2x1x3072, .f32⟩
  | .hbm, ⟨6, _⟩ => ⟨S2x1x9216, .f32⟩
  | .hbm, ⟨7, _⟩ => ⟨S2x9024x2048, .f32⟩
  | .hbm, ⟨8, _⟩ => ⟨S8704x9216, .bf16⟩
  | .local _ .vmem, ⟨0, _⟩ => ⟨S1088x2048, .bf16⟩
  | .local _ .vmem, ⟨1, _⟩ => ⟨S1088x2048, .bf16⟩
  | .local _ .vmem, ⟨2, _⟩ => ⟨S1x1536x2048, .f32⟩
  | .local _ .vmem, ⟨3, _⟩ => ⟨S1x1536x2048, .f32⟩
  | .local _ .vmem, ⟨4, _⟩ => ⟨S1x1x1536, .f32⟩
  | .local _ .vmem, ⟨5, _⟩ => ⟨S1x1x1536, .f32⟩
  | .local _ .vmem, ⟨6, _⟩ => ⟨S1088x1536, .bf16⟩
  | .local _ .vmem, ⟨7, _⟩ => ⟨S1088x1536, .bf16⟩
  | .local _ .vmem, ⟨8, _⟩ => ⟨S1536x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c8_i32 : BitVec 32 := 8#32
  let v1 : BitVec 32 := Scalar.muli arg0 c8_i32
  let c15_i32 : BitVec 32 := 15#32
  let v2 : BitVec 32 := Scalar.addi c15_i32 v1
  let c4_i32_0 : BitVec 32 := 4#32
  let v3 : BitVec 1 := Scalar.cmpi .eq arg0 c4_i32_0
  let c0_i32 : BitVec 32 := 0#32
  let c7_i32 : BitVec 32 := 7#32
  let v4 : BitVec 32 := Scalar.select v3 c0_i32 c7_i32
  let v5 : BitVec 32 := Scalar.select v0 v2 v4
  let c192_i32 : BitVec 32 := 192#32
  let v6 : BitVec 32 := Scalar.muli v5 c192_i32
  let c0_i32_1 : BitVec 32 := 0#32
  let c0_i32_2 : BitVec 32 := 0#32
  let c0_i32_3 : BitVec 32 := 0#32
  ![c0_i32_1.toNat, v6.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1536x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8704x2048 : Shape := ⟨2, ![8704, 2048]⟩
abbrev S2x2048x9024 : Shape := ⟨3, ![2, 2048, 9024]⟩
abbrev S2x6144 : Shape := ⟨2, ![2, 6144]⟩
abbrev S1x2048x9024 : Shape := ⟨3, ![1, 2048, 9024]⟩
abbrev S2048x9024 : Shape := ⟨2, ![2048, 9024]⟩
abbrev S8704x9024 : Shape := ⟨2, ![8704, 9024]⟩
abbrev S8704x6144 : Shape := ⟨2, ![8704, 6144]⟩
abbrev S1x6144 : Shape := ⟨2, ![1, 6144]⟩
abbrev S6144 : Shape := ⟨1, ![6144]⟩
abbrev S_ : Shape := ⟨0, ![]⟩
abbrev S8704x64 : Shape := ⟨2, ![8704, 64]⟩
abbrev S8704x1344 : Shape := ⟨2, ![8704, 1344]⟩
abbrev S8704x32 : Shape := ⟨2, ![8704, 32]⟩
abbrev S8704x1536 : Shape := ⟨2, ![8704, 1536]⟩
abbrev S8704x9216 : Shape := ⟨2, ![8704, 9216]⟩

abbrev nBuf : Space → Nat
  | .hbm => 29
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x9024, .f32⟩
  | .hbm, ⟨2, _⟩ => ⟨S2x6144, .f32⟩
  | .hbm, ⟨3, _⟩ => ⟨S8704x2048, .f32⟩
  | .hbm, ⟨4, _⟩ => ⟨S1x2048x9024, .f32⟩
  | .hbm, ⟨5, _⟩ => ⟨S2048x9024, .f32⟩
  | .hbm, ⟨6, _⟩ => ⟨S8704x9024, .f32⟩
  | .hbm, ⟨7, _⟩ => ⟨S8704x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S8704x6144, .f32⟩
  | .hbm, ⟨12, _⟩ => ⟨S8704x6144, .f32⟩
  | .hbm, ⟨13, _⟩ => ⟨S8704x6144, .f32⟩
  | .hbm, ⟨14, _⟩ => ⟨S8704x6144, .f32⟩
  | .hbm, ⟨15, _⟩ => ⟨S_, .f32⟩
  | .hbm, ⟨16, _⟩ => ⟨S8704x6144, .f32⟩
  | .hbm, ⟨17, _⟩ => ⟨S8704x6144, .f32⟩
  | .hbm, ⟨18, _⟩ => ⟨S_, .f32⟩
  | .hbm, ⟨19, _⟩ => ⟨S8704x6144, .f32⟩
  | .hbm, ⟨20, _⟩ => ⟨S8704x6144, .f32⟩
  | .hbm, ⟨21, _⟩ => ⟨S_, .f32⟩
  | .hbm, ⟨22, _⟩ => ⟨S8704x64, .f32⟩
  | .hbm, ⟨23, _⟩ => ⟨S8704x1344, .f32⟩
  | .hbm, ⟨24, _⟩ => ⟨S8704x32, .f32⟩
  | .hbm, ⟨25, _⟩ => ⟨S8704x32, .f32⟩
  | .hbm, ⟨26, _⟩ => ⟨S8704x1536, .f32⟩
  | .hbm, ⟨27, _⟩ => ⟨S8704x9216, .f32⟩
  | .hbm, ⟨28, _⟩ => ⟨S8704x9216, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x2048 : Shape := ⟨2, ![2, 2048]⟩
abbrev S2x8x12288 : Shape := ⟨3, ![2, 8, 12288]⟩
abbrev S2x2048x5632 : Shape := ⟨3, ![2, 2048, 5632]⟩
abbrev S2x5632x2048 : Shape := ⟨3, ![2, 5632, 2048]⟩
abbrev S8192x2048 : Shape := ⟨2, ![8192, 2048]⟩
abbrev S2x1x2048 : Shape := ⟨3, ![2, 1, 2048]⟩
abbrev S96x1x2048 : Shape := ⟨3, ![96, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1x2048 : Shape := ⟨2, ![1, 2048]⟩
abbrev S1024x512 : Shape := ⟨2, ![1024, 512]⟩

abbrev nBuf : Space → Nat
  | .hbm => 19
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x8x12288, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S8192x2048, .f32⟩
  | .hbm, ⟨7, _⟩ => ⟨S2x1x2048, .f32⟩
  | .hbm, ⟨8, _⟩ => ⟨S96x1x2048, .f32⟩
  | .hbm, ⟨9, _⟩ => ⟨S1x2048x5632, .f32⟩
  | .hbm, ⟨10, _⟩ => ⟨S2048x5632, .f32⟩
  | .hbm, ⟨11, _⟩ => ⟨S2048x5632, .bf16⟩
  | .hbm, ⟨12, _⟩ => ⟨S1x2048x5632, .f32⟩
  | .hbm, ⟨13, _⟩ => ⟨S2048x5632, .f32⟩
  | .hbm, ⟨14, _⟩ => ⟨S2048x5632, .bf16⟩
  | .hbm, ⟨15, _⟩ => ⟨S1x5632x2048, .f32⟩
  | .hbm, ⟨16, _⟩ => ⟨S5632x2048, .f32⟩
  | .hbm, ⟨17, _⟩ => ⟨S5632x2048, .bf16⟩
  | .hbm, ⟨18, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1024x2048, .f32⟩
  | .local _ .vmem, ⟨16, _⟩ => ⟨S1024x2048, .f32⟩
  | .local _ .vmem, ⟨17, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c51_i32 : BitVec 32 := 51#32
  let v18 : BitVec 32 := Scalar.addi c51_i32 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c52_i32 : BitVec 32 := 52#32
  let v18 : BitVec 32 := Scalar.addi c52_i32 v17
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c53_i32 : BitVec 32 := 53#32
  let v18 : BitVec 32 := Scalar.addi c53_i32 v17
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S2x4096x2048 : Shape := ⟨3, ![2, 4096, 2048]⟩
abbrev S2x2048 : Shape := ⟨2, ![2, 2048]⟩
abbrev S2x8x12288 : Shape := ⟨3, ![2, 8, 12288]⟩
abbrev S2x2048x5632 : Shape := ⟨3, ![2, 2048, 5632]⟩
abbrev S2x5632x2048 : Shape := ⟨3, ![2, 5632, 2048]⟩
abbrev S1x2x12288 : Shape := ⟨3, ![1, 2, 12288]⟩
abbrev S2x12288 : Shape := ⟨2, ![2, 12288]⟩
abbrev S2x6x1x2048 : Shape := ⟨4, ![2, 6, 1, 2048]⟩
abbrev S_ : Shape := ⟨0, ![]⟩
abbrev S2x4096 : Shape := ⟨2, ![2, 4096]⟩
abbrev S2x4096x1 : Shape := ⟨3, ![2, 4096, 1]⟩
abbrev S1x2048 : Shape := ⟨2, ![1, 2048]⟩
abbrev S2048 : Shape := ⟨1, ![2048]⟩
abbrev S1x1x2048 : Shape := ⟨3, ![1, 1, 2048]⟩
abbrev S2x1x1x2048 : Shape := ⟨4, ![2, 1, 1, 2048]⟩
abbrev S2x1x2048 : Shape := ⟨3, ![2, 1, 2048]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x8x12288, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S1x2x12288, .f32⟩
  | .hbm, ⟨7, _⟩ => ⟨S2x12288, .f32⟩
  | .hbm, ⟨8, _⟩ => ⟨S2x6x1x2048, .f32⟩
  | .hbm, ⟨9, _⟩ => ⟨S2x4096x2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S2x4096x1, .f32⟩
  | .hbm, ⟨20, _⟩ => ⟨S2x4096x2048, .f32⟩
  | .hbm, ⟨21, _⟩ => ⟨S2x4096x2048, .f32⟩
  | .hbm, ⟨22, _⟩ => ⟨S1x2048, .f32⟩
  | .hbm, ⟨23, _⟩ => ⟨S2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S2x1x1x2048, .f32⟩
  | .hbm, ⟨28, _⟩ => ⟨S2x1x2048, .f32⟩
  | .hbm, ⟨29, _⟩ => ⟨S_, .f32⟩
  | .hbm, ⟨30, _⟩ => ⟨S2x1x2048, .f32⟩
  | .hbm, ⟨31, _⟩ => ⟨S2x1x2048, .f32⟩
  | .hbm, ⟨32, _⟩ => ⟨S2x4096x2048, .f32⟩
  | .hbm, ⟨33, _⟩ => ⟨S2x4096x2048, .f32⟩
  | .hbm, ⟨34, _⟩ => ⟨S2x1x1x2048, .f32⟩
  | .hbm, ⟨35, _⟩ => ⟨S2x1x2048, .f32⟩
  | .hbm, ⟨36, _⟩ => ⟨S2x4096x2048, .f32⟩
  | .hbm, ⟨37, _⟩ => ⟨S2x4096x2048, .f32⟩
  | .hbm, ⟨38, _⟩ => ⟨S1x2048x5632, .f32⟩
  | .hbm, ⟨39, _⟩ => ⟨S2048x5632, .f32⟩
  | .hbm, ⟨40, _⟩ => ⟨S2x4096x5632, .f32⟩
  | .hbm, ⟨41, _⟩ => ⟨S2x4096x5632, .f32⟩
  | .hbm, ⟨42, _⟩ => ⟨S2x4096x5632, .f32⟩
  | .hbm, ⟨43, _⟩ => ⟨S_, .f32⟩
  | .hbm, ⟨44, _⟩ => ⟨S2x4096x5632, .f32⟩
  | .hbm, ⟨45, _⟩ => ⟨S2x4096x5632, .f32⟩
  | .hbm, ⟨46, _⟩ => ⟨S_, .f32⟩
  | .hbm, ⟨47, _⟩ => ⟨S2x4096x5632, .f32⟩
  | .hbm, ⟨48, _⟩ => ⟨S2x4096x5632, .f32⟩
  | .hbm, ⟨49, _⟩ => ⟨S2x4096x5632, .f32⟩
  | .hbm, ⟨50, _⟩ => ⟨S1x2048x5632, .f32⟩
  | .hbm, ⟨51, _⟩ => ⟨S2048x5632, .f32⟩
  | .hbm, ⟨52, _⟩ => ⟨S2x4096x5632, .f32⟩
  | .hbm, ⟨53, _⟩ => ⟨S2x4096x5632, .f32⟩
  | .hbm, ⟨54, _⟩ => ⟨S2x1x1x2048, .f32⟩
  | .hbm, ⟨55, _⟩ => ⟨S2x1x2048, .f32⟩
  | .hbm, ⟨56, _⟩ => ⟨S1x5632x2048, .f32⟩
  | .hbm, ⟨57, _⟩ => ⟨S5632x2048, .f32⟩
  | .hbm, ⟨58, _⟩ => ⟨S2x4096x2048, .f32⟩
  | .hbm, ⟨59, _⟩ => ⟨S2x4096x2048, .f32⟩
  | .hbm, ⟨60, _⟩ => ⟨S2x4096x2048, .f32⟩
  | .hbm, ⟨61, _⟩ => ⟨S2x4096x2048, .f32⟩
  | .hbm, ⟨62, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel3.lean ====
abbrev S8704x2048 : Shape := ⟨2, ![8704, 2048]⟩
abbrev S2x2048 : Shape := ⟨2, ![2, 2048]⟩
abbrev S2x8x12288 : Shape := ⟨3, ![2, 8, 12288]⟩
abbrev S2x2048x5632 : Shape := ⟨3, ![2, 2048, 5632]⟩
abbrev S2x5632x2048 : Shape := ⟨3, ![2, 5632, 2048]⟩
abbrev S2x1x2048 : Shape := ⟨3, ![2, 1, 2048]⟩
abbrev S96x1x2048 : Shape := ⟨3, ![96, 1, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S1x2048 : Shape := ⟨2, ![1, 2048]⟩
abbrev S512x512 : Shape := ⟨2, ![512, 512]⟩

abbrev nBuf : Space → Nat
  | .hbm => 21
  | .vmem => 25
  | .smem => 0
  | _ => 0

abbrev bufTy : (tb : Table) → Fin (tcTables nBuf tb) → BufTy
  | .hbm, ⟨0, _⟩ => ⟨S8704x2048, .f32⟩
  | .hbm, ⟨1, _⟩ => ⟨S2x2048, .f32⟩
  | .hbm, ⟨2, _⟩ => ⟨S2x2048, .f32⟩
  | .hbm, ⟨3, _⟩ => ⟨S2x8x12288, .f32⟩
  | .hbm, ⟨4, _⟩ => ⟨S2x2048x5632, .f32⟩
  | .hbm, ⟨5, _⟩ => ⟨S2x2048x5632, .f32⟩
  | .hbm, ⟨6, _⟩ => ⟨S2x5632x2048, .f32⟩
  | .hbm, ⟨7, _⟩ => ⟨S2x1x2048, .f32⟩
  | .hbm, ⟨8, _⟩ => ⟨S96x1x2048, .f32⟩
  | .hbm, ⟨9, _⟩ => ⟨S1x2048x5632, .f32⟩
  | .hbm, ⟨10, _⟩ => ⟨S2048x5632, .f32⟩
  | .hbm, ⟨11, _⟩ => ⟨S2048x5632, .bf16⟩
  | .hbm, ⟨12, _⟩ => ⟨S1x2048x5632, .f32⟩
  | .hbm, ⟨13, _⟩ => ⟨S2048x5632, .f32⟩
  | .hbm, ⟨14, _⟩ => ⟨S2048x5632, .bf16⟩
  | .hbm, ⟨15, _⟩ => ⟨S1x5632x2048, .f32⟩
  | .hbm, ⟨16, _⟩ => ⟨S5632x2048, .f32⟩
  | .hbm, ⟨17, _⟩ => ⟨S5632x2048, .bf16⟩
  | .hbm, ⟨18, _⟩ => ⟨S2x1x2048, .f32⟩
  | .hbm, ⟨19, _⟩ => ⟨S8704x2048, .f32⟩
  | .hbm, ⟨20, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![17, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi c3_i32 v17
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi c4_i32 v17
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi c5_i32 v17
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c48_i32 : BitVec 32 := 48#32
  let v18 : BitVec 32 := Scalar.addi c48_i32 v17
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c49_i32 : BitVec 32 := 49#32
  let v18 : BitVec 32 := Scalar.addi c49_i32 v17
  let c0_i32_4 : BitVec 32 := 0#32
  let c0_i32_5 : BitVec 32 := 0#32
  let c0_i32_6 : BitVec 32 := 0#32
  ![v18.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference3Ideal.lean ====
abbrev S8704x2048 : Shape := ⟨2, ![8704, 2048]⟩
abbrev S2x2048 : Shape := ⟨2, ![2, 2048]⟩
abbrev S2x8x12288 : Shape := ⟨3, ![2, 8, 12288]⟩
abbrev S2x2048x5632 : Shape := ⟨3, ![2, 2048, 5632]⟩
abbrev S2x5632x2048 : Shape := ⟨3, ![2, 5632, 2048]⟩
abbrev S8192x2048 : Shape := ⟨2, ![8192, 2048]⟩
abbrev S2x4096x2048 : Shape := ⟨3, ![2, 4096, 2048]⟩
abbrev S512x2048 : Shape := ⟨2, ![512, 2048]⟩
abbrev S2x256x2048 : Shape := ⟨3, ![2, 256, 2048]⟩
abbrev S1x2x12288 : Shape := ⟨3, ![1, 2, 12288]⟩
abbrev S2x12288 : Shape := ⟨2, ![2, 12288]⟩
abbrev S2x6x1x2048 : Shape := ⟨4, ![2, 6, 1, 2048]⟩
abbrev S1x1x12288 : Shape := ⟨3, ![1, 1, 12288]⟩
abbrev S12288 : Shape := ⟨1, ![12288]⟩
abbrev S6x2048 : Shape := ⟨2, ![6, 2048]⟩
abbrev S2x1x1x2048 : Shape := ⟨4, ![2, 1, 1, 2048]⟩
abbrev S2x1x2048 : Shape := ⟨3, ![2, 1, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S1x5632x2048 : Shape := ⟨3, ![1, 5632, 2048]⟩
abbrev S5632x2048 : Shape := ⟨2, ![5632, 2048]⟩
abbrev S2x256 : Shape := ⟨2, ![2, 256]⟩
abbrev S2x256x1 : Shape := ⟨3, ![2, 256, 1]⟩
abbrev S2x256x5632 : Shape := ⟨3, ![2, 256, 5632]⟩

abbrev nBuf : Space → Nat
  | .hbm => 199
  | .vmem => 0
  | .smem => 0
  | _ => 0

abbrev hbmTy0_0 (i : Nat) : BufTy := match i % 128 with
  | 0 => ⟨S8704x2048, .f32⟩
  | 1 => ⟨S2x2048, .f32⟩
  | 2 => ⟨S2x2048, .f32⟩
  | 3 => ⟨S2x8x12288, .f32⟩
  | 4 => ⟨S2x2048x5632, .f32⟩
  | 5 => ⟨S2x2048x5632, .f32⟩
  | 6 => ⟨S2x5632x2048, .f32⟩
  | 7 => ⟨S8192x2048, .f32⟩
  | 8 => ⟨S2x4096x2048, .f32⟩
  | 9 => ⟨S512x2048, .f32⟩
  | 10 => ⟨S2x256x2048, .f32⟩
  | 11 => ⟨S1x2x12288, .f32⟩
  | 12 => ⟨S2x12288, .f32⟩
  | 13 => ⟨S2x6x1x2048, .f32⟩
  | 14 => ⟨S1x1x12288, .f32⟩
  | 15 => ⟨S12288, .f32⟩
  | 16 => ⟨S6x2048, .f32⟩
  | 17 => ⟨S1x2x12288, .f32⟩
  | 18 => ⟨S2x12288, .f32⟩
  | 19 => ⟨S2x6x1x2048, .f32⟩
  | 20 => ⟨S1x1x12288, .f32⟩
  | 21 => ⟨S12288, .f32⟩
  | 22 => ⟨S6x2048, .f32⟩
  | 23 => ⟨S2x1x1x2048, .f32⟩
  | 24 => ⟨S2x1x2048, .f32⟩
  | 25 => ⟨S1x2048, .f32⟩
  | 26 => ⟨S2048, .f32⟩
  | 27 => ⟨S2x4096x2048, .f32⟩
  | 28 => ⟨S_, .f32⟩
  | 29 => ⟨S2x4096, .f32⟩
  | 30 => ⟨S2x4096x1, .f32⟩
  | 31 => ⟨S_, .f32⟩
  | 32 => ⟨S2x4096x1, .f32⟩
  | 33 => ⟨S2x4096x1, .f32⟩
  | 34 => ⟨S_, .f32⟩
  | 35 => ⟨S2x4096x1, .f32⟩
  | 36 => ⟨S2x4096x1, .f32⟩
  | 37 => ⟨S2x4096x1, .f32⟩
  | 38 => ⟨S2x4096x2048, .f32⟩
  | 39 => ⟨S2x4096x2048, .f32⟩
  | 40 => ⟨S1x1x2048, .f32⟩
  | 41 => ⟨S2x4096x2048, .f32⟩
  | 42 => ⟨S2x4096x2048, .f32⟩
  | 43 => ⟨S2x1x1x2048, .f32⟩
  | 44 => ⟨S2x1x2048, .f32⟩
  | 45 => ⟨S_, .f32⟩
  | 46 => ⟨S2x1x2048, .f32⟩
  | 47 => ⟨S2x1x2048, .f32⟩
  | 48 => ⟨S2x4096x2048, .f32⟩
  | 49 => ⟨S2x4096x2048, .f32⟩
  | 50 => ⟨S2x1x1x2048, .f32⟩
  | 51 => ⟨S2x1x2048, .f32⟩
  | 52 => ⟨S2x4096x2048, .f32⟩
  | 53 => ⟨S2x4096x2048, .f32⟩
  | 54 => ⟨S1x2048x5632, .f32⟩
  | 55 => ⟨S2048x5632, .f32⟩
  | 56 => ⟨S2x4096x5632, .f32⟩
  | 57 => ⟨S2x4096x5632, .f32⟩
  | 58 => ⟨S2x4096x5632, .f32⟩
  | 59 => ⟨S_, .f32⟩
  | 60 => ⟨S2x4096x5632, .f32⟩
  | 61 => ⟨S2x4096x5632, .f32⟩
  | 62 => ⟨S_, .f32⟩
  | 63 => ⟨S2x4096x5632, .f32⟩
  | 64 => ⟨S2x4096x5632, .f32⟩
  | 65 => ⟨S2x4096x5632, .f32⟩
  | 66 => ⟨S1x2048x5632, .f32⟩
  | 67 => ⟨S2048x5632, .f32⟩
  | 68 => ⟨S2x4096x5632, .f32⟩
  | 69 => ⟨S2x4096x5632, .f32⟩
  | 70 => ⟨S1x5632x2048, .f32⟩
  | 71 => ⟨S5632x2048, .f32⟩
  | 72 => ⟨S2x4096x2048, .f32⟩
  | 73 => ⟨S2x4096x2048, .f32⟩
  | 74 => ⟨S2x4096x2048, .f32⟩
  | 75 => ⟨S2x4096x2048, .f32⟩
  | 76 => ⟨S1x2048, .f32⟩
  | 77 => ⟨S2048, .f32⟩
  | 78 => ⟨S1x2048, .f32⟩
  | 79 => ⟨S2048, .f32⟩
  | 80 => ⟨S2x256x2048, .f32⟩
  | 81 => ⟨S_, .f32⟩
  | 82 => ⟨S2x256, .f32⟩
  | 83 => ⟨S2x256x1, .f32⟩
  | 84 => ⟨S_, .f32⟩
  | 85 => ⟨S2x256x1, .f32⟩
  | 86 => ⟨S2x256x1, .f32⟩
  | 87 => ⟨S_, .f32⟩
  | 88 => ⟨S2x256x1, .f32⟩
  | 89 => ⟨S2x256x1, .f32⟩
  | 90 => ⟨S2x256x1, .f32⟩
  | 91 => ⟨S2x256x2048, .f32⟩
  | 92 => ⟨S2x256x2048, .f32⟩
  | 93 => ⟨S1x1x2048, .f32⟩
  | 94 => ⟨S2x256x2048, .f32⟩
  | 95 => ⟨S2x256x2048, .f32⟩
  | 96 => ⟨S1x2048, .f32⟩
  | 97 => ⟨S2048, .f32⟩
  | 98 => ⟨S_, .f32⟩
  | 99 => ⟨S2048, .f32⟩
  | 100 => ⟨S2048, .f32⟩
  | 101 => ⟨S1x1x2048, .f32⟩
  | 102 => ⟨S2x256x2048, .f32⟩
  | 103 => ⟨S2x256x2048, .f32⟩
  | 104 => ⟨S1x2048, .f32⟩
  | 105 => ⟨S2048, .f32⟩
  | 106 => ⟨S1x1x2048, .f32⟩
  | 107 => ⟨S2x256x2048, .f32⟩
  | 108 => ⟨S2x256x2048, .f32⟩
  | 109 => ⟨S1x2048x5632, .f32⟩
  | 110 => ⟨S2048x5632, .f32⟩
  | 111 => ⟨S2x256x5632, .f32⟩
  | 112 => ⟨S2x256x5632, .f32⟩
  | 113 => ⟨S2x256x5632, .f32⟩
  | 114 => ⟨S_, .f32⟩
  | 115 => ⟨S2x256x5632, .f32⟩
  | 116 => ⟨S2x256x5632, .f32⟩
  | 117 => ⟨S_, .f32⟩
  | 118 => ⟨S2x256x5632, .f32⟩
  | 119 => ⟨S2x256x5632, .f32⟩
  | 120 => ⟨S2x256x5632, .f32⟩
  | 121 => ⟨S1x2048x5632, .f32⟩
  | 122 => ⟨S2048x5632, .f32⟩
  | 123 => ⟨S2x256x5632, .f32⟩
  | 124 => ⟨S2x256x5632, .f32⟩
  | 125 => ⟨S1x5632x2048, .f32⟩
  | 126 => ⟨S5632x2048, .f32⟩
  | 127 => ⟨S2x256x2048, .f32⟩
  | _ => ⟨S8704x2048, .f32⟩

abbrev hbmTy0_1 (i : Nat) : BufTy := match i % 128 with
  | 0 => ⟨S1x1x2048, .f32⟩
  | 1 => ⟨S2x256x2048, .f32⟩
  | 2 => ⟨S2x256x2048, .f32⟩
  | 3 => ⟨S2x256x2048, .f32⟩
  | 4 => ⟨S1x2048, .f32⟩
  | 5 => ⟨S2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S2x1x1x2048, .f32⟩
  | 23 => ⟨S2x1x2048, .f32⟩
  | 24 => ⟨S_, .f32⟩
  | 25 => ⟨S2x1x2048, .f32⟩
  | 26 => ⟨S2x1x2048, .f32⟩
  | 27 => ⟨S2x4096x2048, .f32⟩
  | 28 => ⟨S2x4096x2048, .f32⟩
  | 29 => ⟨S2x1x1x2048, .f32⟩
  | 30 => ⟨S2x1x2048, .f32⟩
  | 31 => ⟨S2x4096x2048, .f32⟩
  | 32 => ⟨S2x4096x2048, .f32⟩
  | 33 => ⟨S1x2048, .f32⟩
  | 34 => ⟨S2048, .f32⟩
  | 35 => ⟨S2x256x2048, .f32⟩
  | 36 => ⟨S_, .f32⟩
  | 37 => ⟨S2x256, .f32⟩
  | 38 => ⟨S2x256x1, .f32⟩
  | 39 => ⟨S_, .f32⟩
  | 40 => ⟨S2x256x1, .f32⟩
  | 41 => ⟨S2x256x1, .f32⟩
  | 42 => ⟨S_, .f32⟩
  | 43 => ⟨S2x256x1, .f32⟩
  | 44 => ⟨S2x256x1, .f32⟩
  | 45 => ⟨S2x256x1, .f32⟩
  | 46 => ⟨S2x256x2048, .f32⟩
  | 47 => ⟨S2x256x2048, .f32⟩
  | 48 => ⟨S1x1x2048, .f32⟩
  | 49 => ⟨S2x256x2048, .f32⟩
  | 50 => ⟨S2x256x2048, .f32⟩
  | 51 => ⟨S1x2048, .f32⟩
  | 52 => ⟨S2048, .f32⟩
  | 53 => ⟨S_, .f32⟩
  | 54 => ⟨S2048, .f32⟩
  | 55 => ⟨S2048, .f32⟩
  | 56 => ⟨S1x1x2048, .f32⟩
  | 57 => ⟨S2x256x2048, .f32⟩
  | 58 => ⟨S2x256x2048, .f32⟩
  | 59 => ⟨S1x2048, .f32⟩
  | 60 => ⟨S2048, .f32⟩
  | 61 => ⟨S1x1x2048, .f32⟩
  | 62 => ⟨S2x256x2048, .f32⟩
  | 63 => ⟨S2x256x2048, .f32⟩
  | 64 => ⟨S8192x2048, .f32⟩
  | 65 => ⟨S512x2048, .f32⟩
  | 66 => ⟨S8704x2048, .f32⟩
  | 67 => ⟨S8192x2048, .f32⟩
  | 68 => ⟨S512x2048, .f32⟩
  | 69 => ⟨S8704x2048, .f32⟩
  | 70 => ⟨S8704x2048, .bf16⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_3 : Ref sig .tc := ⟨.hbm, 81, rfl⟩
abbrev main_v62 : Ref sig .tc := ⟨.hbm, 82, rfl⟩
abbrev main_v63 : Ref sig .tc := ⟨.hbm, 83, rfl⟩
abbrev main_cst_4 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_6 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_7 : Ref sig .tc := ⟨.hbm, 135, rfl⟩
abbrev main_v104 : Ref sig .tc := ⟨.hbm, 136, rfl⟩
abbrev main_v105 : Ref sig .tc := ⟨.hbm, 137, rfl⟩
abbrev main_cst_8 : Ref sig .tc := ⟨.hbm, 138, rfl⟩
abbrev main_v106 : Ref sig .tc := ⟨.hbm, 139, rfl⟩
abbrev main_v107 : Ref sig .tc := ⟨.hbm, 140, rfl⟩
abbrev main_cst_9 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_10 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_11 : Ref sig .tc := ⟨.hbm, 164, rfl⟩
abbrev main_v129 : Ref sig .tc := ⟨.hbm, 165, rfl⟩
abbrev main_v130 : Ref sig .tc := ⟨.hbm, 166, rfl⟩
abbrev main_cst_12 : Ref sig .tc := ⟨.hbm, 167, rfl⟩
abbrev main_v131 : Ref sig .tc := ⟨.hbm, 168, rfl⟩
abbrev main_v132 : Ref sig .tc := ⟨.hbm, 169, rfl⟩
abbrev main_cst_13 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_14 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩

abbrev nD : Nat := 1
abbrev τ : Topo := Topo.v7x

variable {F : FTy → Type} [FloatOps F]
-- ==== Kernel4.lean ====
abbrev S8192x512 : Shape := ⟨2, ![8192, 512]⟩
abbrev S512x512 : Shape := ⟨2, ![512, 512]⟩
abbrev S8192x1024 : Shape := ⟨2, ![8192, 1024]⟩
abbrev S512x1024 : Shape := ⟨2, ![512, 1024]⟩
abbrev S8704x512 : Shape := ⟨2, ![8704, 512]⟩
abbrev S8704x9216 : Shape := ⟨2, ![8704, 9216]⟩
abbrev S8704x2048 : Shape := ⟨2, ![8704, 2048]⟩
abbrev S2x8x12288 : Shape := ⟨3, ![2, 8, 12288]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S96x1x2048 : Shape := ⟨3, ![96, 1, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x1x2048 : Shape := ⟨3, ![1, 1, 2048]⟩
abbrev S1024x512 : Shape := ⟨2, ![1024, 512]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 26
  | .vmem => 25
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x1024, .bf16⟩
  | .hbm, ⟨3, _⟩ => ⟨S512x1024, .bf16⟩
  | .hbm, ⟨4, _⟩ => ⟨S8704x512, .bf16⟩
  | .hbm, ⟨5, _⟩ => ⟨S8704x9216, .bf16⟩
  | .hbm, ⟨6, _⟩ => ⟨S8704x2048, .f32⟩
  | .hbm, ⟨7, _⟩ => ⟨S2x8x12288, .f32⟩
  | .hbm, ⟨8, _⟩ => ⟨S2x512x2048, .f32⟩
  | .hbm, ⟨9, _⟩ => ⟨S2x1024x2048, .f32⟩
  | .hbm, ⟨10, _⟩ => ⟨S2x512x2048, .f32⟩
  | .hbm, ⟨11, _⟩ => ⟨S2x2048x2048, .f32⟩
  | .hbm, ⟨12, _⟩ => ⟨S96x1x2048, .f32⟩
  | .hbm, ⟨13, _⟩ => ⟨S1x512x2048, .f32⟩
  | .hbm, ⟨14, _⟩ => ⟨S512x2048, .f32⟩
  | .hbm, ⟨15, _⟩ => ⟨S512x2048, .bf16⟩
  | .hbm, ⟨16, _⟩ => ⟨S1x1024x2048, .f32⟩
  | .hbm, ⟨17, _⟩ => ⟨S1024x2048, .f32⟩
  | .hbm, ⟨18, _⟩ => ⟨S1024x2048, .bf16⟩
  | .hbm, ⟨19, _⟩ => ⟨S1x512x2048, .f32⟩
  | .hbm, ⟨20, _⟩ => ⟨S512x2048, .f32⟩
  | .hbm, ⟨21, _⟩ => ⟨S512x2048, .bf16⟩
  | .hbm, ⟨22, _⟩ => ⟨S1x2048x2048, .f32⟩
  | .hbm, ⟨23, _⟩ => ⟨S2048x2048, .f32⟩
  | .hbm, ⟨24, _⟩ => ⟨S2048x2048, .bf16⟩
  | .hbm, ⟨25, _⟩ => ⟨S8704x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S1x1x2048, .f32⟩
  | .local _ .vmem, ⟨17, _⟩ => ⟨S1x1x2048, .f32⟩
  | .local _ .vmem, ⟨18, _⟩ => ⟨S512x2048, .bf16⟩
  | .local _ .vmem, ⟨19, _⟩ => ⟨S1024x2048, .bf16⟩
  | .local _ .vmem, ⟨20, _⟩ => ⟨S512x2048, .bf16⟩
  | .local _ .vmem, ⟨21, _⟩ => ⟨S2048x2048, .bf16⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi c2_i32 v17
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8192x512 : Shape := ⟨2, ![8192, 512]⟩
abbrev S512x512 : Shape := ⟨2, ![512, 512]⟩
abbrev S8192x1024 : Shape := ⟨2, ![8192, 1024]⟩
abbrev S512x1024 : Shape := ⟨2, ![512, 1024]⟩
abbrev S8704x512 : Shape := ⟨2, ![8704, 512]⟩
abbrev S8704x9216 : Shape := ⟨2, ![8704, 9216]⟩
abbrev S8704x2048 : Shape := ⟨2, ![8704, 2048]⟩
abbrev S2x8x12288 : Shape := ⟨3, ![2, 8, 12288]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S1x2x12288 : Shape := ⟨3, ![1, 2, 12288]⟩
abbrev S2x12288 : Shape := ⟨2, ![2, 12288]⟩
abbrev S2x6x1x2048 : Shape := ⟨4, ![2, 6, 1, 2048]⟩
abbrev S1x1x12288 : Shape := ⟨3, ![1, 1, 12288]⟩
abbrev S12288 : Shape := ⟨1, ![12288]⟩
abbrev S6x2048 : Shape := ⟨2, ![6, 2048]⟩
abbrev S8192x2048 : Shape := ⟨2, ![8192, 2048]⟩
abbrev S2x4096x2048 : Shape := ⟨3, ![2, 4096, 2048]⟩
abbrev S512x2048 : Shape := ⟨2, ![512, 2048]⟩
abbrev S2x256x2048 : Shape := ⟨3, ![2, 256, 2048]⟩
abbrev S2x1x1x2048 : Shape := ⟨4, ![2, 1, 1, 2048]⟩
abbrev S2x1x2048 : Shape := ⟨3, ![2, 1, 2048]⟩
abbrev S8192x9216 : Shape := ⟨2, ![8192, 9216]⟩
abbrev S1x512x2048 : Shape := ⟨3, ![1, 512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x9216 : Shape := ⟨2, ![512, 9216]⟩
abbrev S1x1x2048 : Shape := ⟨3, ![1, 1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x512, .bf16⟩
  | .hbm, ⟨2, _⟩ => ⟨S8192x1024, .bf16⟩
  | .hbm, ⟨3, _⟩ => ⟨S512x1024, .bf16⟩
  | .hbm, ⟨4, _⟩ => ⟨S8704x512, .bf16⟩
  | .hbm, ⟨5, _⟩ => ⟨S8704x9216, .bf16⟩
  | .hbm, ⟨6, _⟩ => ⟨S8704x2048, .f32⟩
  | .hbm, ⟨7, _⟩ => ⟨S2x8x12288, .f32⟩
  | .hbm, ⟨8, _⟩ => ⟨S2x512x2048, .f32⟩
  | .hbm, ⟨9, _⟩ => ⟨S2x1024x2048, .f32⟩
  | .hbm, ⟨10, _⟩ => ⟨S2x512x2048, .f32⟩
  | .hbm, ⟨11, _⟩ => ⟨S2x2048x2048, .f32⟩
  | .hbm, ⟨12, _⟩ => ⟨S1x2x12288, .f32⟩
  | .hbm, ⟨13, _⟩ => ⟨S2x12288, .f32⟩
  | .hbm, ⟨14, _⟩ => ⟨S2x6x1x2048, .f32⟩
  | .hbm, ⟨15, _⟩ => ⟨S1x1x12288, .f32⟩
  | .hbm, ⟨16, _⟩ => ⟨S12288, .f32⟩
  | .hbm, ⟨17, _⟩ => ⟨S6x2048, .f32⟩
  | .hbm, ⟨18, _⟩ => ⟨S8192x2048, .f32⟩
  | .hbm, ⟨19, _⟩ => ⟨S2x4096x2048, .f32⟩
  | .hbm, ⟨20, _⟩ => ⟨S512x2048, .f32⟩
  | .hbm, ⟨21, _⟩ => ⟨S2x256x2048, .f32⟩
  | .hbm, ⟨22, _⟩ => ⟨S2x1x1x2048, .f32⟩
  | .hbm, ⟨23, _⟩ => ⟨S2x1x2048, .f32⟩
  | .hbm, ⟨24, _⟩ => ⟨S8192x512, .bf16⟩
  | .hbm, ⟨25, _⟩ => ⟨S8192x9216, .bf16⟩
  | .hbm, ⟨26, _⟩ => ⟨S8192x9216, .f32⟩
  | .hbm, ⟨27, _⟩ => ⟨S8192x512, .f32⟩
  | .hbm, ⟨28, _⟩ => ⟨S1x512x2048, .f32⟩
  | .hbm, ⟨29, _⟩ => ⟨S512x2048, .f32⟩
  | .hbm, ⟨30, _⟩ => ⟨S8192x2048, .f32⟩
  | .hbm, ⟨31, _⟩ => ⟨S8192x1024, .f32⟩
  | .hbm, ⟨32, _⟩ => ⟨S1x1024x2048, .f32⟩
  | .hbm, ⟨33, _⟩ => ⟨S1024x2048, .f32⟩
  | .hbm, ⟨34, _⟩ => ⟨S8192x2048, .f32⟩
  | .hbm, ⟨35, _⟩ => ⟨S8192x512, .f32⟩
  | .hbm, ⟨36, _⟩ => ⟨S1x512x2048, .f32⟩
  | .hbm, ⟨37, _⟩ => ⟨S512x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048x2048, .f32⟩
  | .hbm, ⟨48, _⟩ => ⟨S2048x2048, .f32⟩
  | .hbm, ⟨49, _⟩ => ⟨S8192x2048, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S2x4096x2048, .f32⟩
  | .hbm, ⟨54, _⟩ => ⟨S1x2048, .f32⟩
  | .hbm, ⟨55, _⟩ => ⟨S2048, .f32⟩
  | .hbm, ⟨56, _⟩ => ⟨S512x512, .bf16⟩
  | .hbm, ⟨57, _⟩ => ⟨S512x9216, .bf16⟩
  | .hbm, ⟨58, _⟩ => ⟨S512x9216, .f32⟩
  | .hbm, ⟨59, _⟩ => ⟨S512x512, .f32⟩
  | .hbm, ⟨60, _⟩ => ⟨S1x512x2048, .f32⟩
  | .hbm, ⟨61, _⟩ => ⟨S512x2048, .f32⟩
  | .hbm, ⟨62, _⟩ => ⟨S512x2048, .f32⟩
  | .hbm, ⟨63, _⟩ => ⟨S512x1024, .f32⟩
  | .hbm, ⟨64, _⟩ => ⟨S1x1024x2048, .f32⟩
  | .hbm, ⟨65, _⟩ => ⟨S1024x2048, .f32⟩
  | .hbm, ⟨66, _⟩ => ⟨S512x2048, .f32⟩
  | .hbm, ⟨67, _⟩ => ⟨S512x512, .f32⟩
  | .hbm, ⟨68, _⟩ => ⟨S1x512x2048, .f32⟩
  | .hbm, ⟨69, _⟩ => ⟨S512x2048, .f32⟩
  | .hbm, ⟨70, _⟩ => ⟨S512x2048, .f32⟩
  | .hbm, ⟨71, _⟩ => ⟨S512x2048, .f32⟩
  | .hbm, ⟨72, _⟩ => ⟨S512x2048, .f32⟩
  | .hbm, ⟨73, _⟩ => ⟨S512x2048, .f32⟩
  | .hbm, ⟨74, _⟩ => ⟨S512x2048, .f32⟩
  | .hbm, ⟨75, _⟩ => ⟨S512x2048, .f32⟩
  | .hbm, ⟨76, _⟩ => ⟨S512x2048, .f32⟩
  | .hbm, ⟨77, _⟩ => ⟨S512x2048, .f32⟩
  | .hbm, ⟨78, _⟩ => ⟨S512x2048, .f32⟩
  | .hbm, ⟨79, _⟩ => ⟨S1x2048x2048, .f32⟩
  | .hbm, ⟨80, _⟩ => ⟨S2048x2048, .f32⟩
  | .hbm, ⟨81, _⟩ => ⟨S512x2048, .f32⟩
  | .hbm, ⟨82, _⟩ => ⟨S2x256x2048, .f32⟩
  | .hbm, ⟨83, _⟩ => ⟨S1x1x2048, .f32⟩
  | .hbm, ⟨84, _⟩ => ⟨S2x256x2048, .f32⟩
  | .hbm, ⟨85, _⟩ => ⟨S2x256x2048, .f32⟩
  | .hbm, ⟨86, _⟩ => ⟨S2x256x2048, .f32⟩
  | .hbm, ⟨87, _⟩ => ⟨S8192x2048, .f32⟩
  | .hbm, ⟨88, _⟩ => ⟨S512x2048, .f32⟩
  | .hbm, ⟨89, _⟩ => ⟨S8704x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== Kernel5.lean ====
abbrev S8704x8x192 : Shape := ⟨3, ![8704, 8, 192]⟩
abbrev S2x4352x8x192 : Shape := ⟨4, ![2, 4352, 8, 192]⟩
abbrev S2x4352x8x128 : Shape := ⟨4, ![2, 4352, 8, 128]⟩
abbrev S8704x9216 : Shape := ⟨2, ![8704, 9216]⟩
abbrev S512x1024 : Shape := ⟨2, ![512, 1024]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2048x5632 : Shape := ⟨3, ![2, 2048, 5632]⟩
abbrev S2x5632x2048 : Shape := ⟨3, ![2, 5632, 2048]⟩
abbrev S272x272 : Shape := ⟨2, ![272, 272]⟩
abbrev S_ : Shape := ⟨0, ![]⟩
abbrev S8x8704x64 : Shape := ⟨3, ![8, 8704, 64]⟩
abbrev S8x8704x192 : Shape := ⟨3, ![8, 8704, 192]⟩
abbrev S8x8704x256 : Shape := ⟨3, ![8, 8704, 256]⟩
abbrev S2x8x4352x64 : Shape := ⟨4, ![2, 8, 4352, 64]⟩
abbrev S2x8x4352x192 : Shape := ⟨4, ![2, 8, 4352, 192]⟩
abbrev S2x8x4352x256 : Shape := ⟨4, ![2, 8, 4352, 256]⟩
abbrev S2x8x4352x1 : Shape := ⟨4, ![2, 8, 4352, 1]⟩
abbrev S2x8x4352x127 : Shape := ⟨4, ![2, 8, 4352, 127]⟩
abbrev S2x8x4352x128 : Shape := ⟨4, ![2, 8, 4352, 128]⟩
abbrev S8192x1024 : Shape := ⟨2, ![8192, 1024]⟩
abbrev S2x4352x1024 : Shape := ⟨3, ![2, 4352, 1024]⟩
abbrev S512x2048 : Shape := ⟨2, ![512, 2048]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S1x2048x256 : Shape := ⟨3, ![1, 2048, 256]⟩
abbrev S1x1x4352x256 : Shape := ⟨4, ![1, 1, 4352, 256]⟩
abbrev S272x512 : Shape := ⟨2, ![272, 512]⟩
abbrev S1x16x2048 : Shape := ⟨3, ![1, 16, 2048]⟩
abbrev S1x32x2048 : Shape := ⟨3, ![1, 32, 2048]⟩
abbrev S1x64x2048 : Shape := ⟨3, ![1, 64, 2048]⟩
abbrev S1x64x5632 : Shape := ⟨3, ![1, 64, 5632]⟩
abbrev S1x176x2048 : Shape := ⟨3, ![1, 176, 2048]⟩
abbrev S2048x128 : Shape := ⟨2, ![2048, 128]⟩
abbrev S2x136x1024 : Shape := ⟨3, ![2, 136, 1024]⟩
abbrev S16x2048 : Shape := ⟨2, ![16, 2048]⟩
abbrev S32x2048 : Shape := ⟨2, ![32, 2048]⟩
abbrev S64x2048 : Shape := ⟨2, ![64, 2048]⟩
abbrev S64x5632 : Shape := ⟨2, ![64, 5632]⟩
abbrev S176x2048 : Shape := ⟨2, ![176, 2048]⟩
abbrev S272x1024 : Shape := ⟨2, ![272, 1024]⟩
abbrev S136x512 : Shape := ⟨2, ![136, 512]⟩
abbrev S1x136x512 : Shape := ⟨3, ![1, 136, 512]⟩
abbrev S4352x256 : Shape := ⟨2, ![4352, 256]⟩
abbrev S1x256x256 : Shape := ⟨3, ![1, 256, 256]⟩
abbrev S256x256 : Shape := ⟨2, ![256, 256]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩

abbrev nBuf : Space → Nat
  | .hbm => 47
  | .vmem => 42
  | .smem => 0
  | _ => 0

abbrev bufTy : (tb : Table) → Fin (tcTables nBuf tb) → BufTy
  | .hbm, ⟨0, _⟩ => ⟨S8704x8x192, .f32⟩
  | .hbm, ⟨1, _⟩ => ⟨S2x4352x8x192, .f32⟩
  | .hbm, ⟨2, _⟩ => ⟨S2x4352x8x128, .f32⟩
  | .hbm, ⟨3, _⟩ => ⟨S8704x9216, .bf16⟩
  | .hbm, ⟨4, _⟩ => ⟨S512x1024, .bf16⟩
  | .hbm, ⟨5, _⟩ => ⟨S2x512x2048, .f32⟩
  | .hbm, ⟨6, _⟩ => ⟨S2x1024x2048, .f32⟩
  | .hbm, ⟨7, _⟩ => ⟨S2x512x2048, .f32⟩
  | .hbm, ⟨8, _⟩ => ⟨S2x2048x2048, .f32⟩
  | .hbm, ⟨9, _⟩ => ⟨S2x2048x5632, .f32⟩
  | .hbm, ⟨10, _⟩ => ⟨S2x2048x5632, .f32⟩
  | .hbm, ⟨11, _⟩ => ⟨S2x5632x2048, .f32⟩
  | .hbm, ⟨12, _⟩ => ⟨S272x272, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8704x64, .f32⟩
  | .hbm, ⟨20, _⟩ => ⟨S8x8704x192, .f32⟩
  | .hbm, ⟨21, _⟩ => ⟨S8x8704x192, .f32⟩
  | .hbm, ⟨22, _⟩ => ⟨S8x8704x192, .f32⟩
  | .hbm, ⟨23, _⟩ => ⟨S8x8704x256, .f32⟩
  | .hbm, ⟨24, _⟩ => ⟨S8x8704x256, .bf16⟩
  | .hbm, ⟨25, _⟩ => ⟨S_, .f32⟩
  | .hbm, ⟨26, _⟩ => ⟨S2x8x4352x64, .f32⟩
  | .hbm, ⟨27, _⟩ => ⟨S2x8x4352x192, .f32⟩
  | .hbm, ⟨28, _⟩ => ⟨S2x8x4352x256, .f32⟩
  | .hbm, ⟨29, _⟩ => ⟨S2x8x4352x256, .bf16⟩
  | .hbm, ⟨30, _⟩ => ⟨S_, .f32⟩
  | .hbm, ⟨31, _⟩ => ⟨S2x8x4352x1, .f32⟩
  | .hbm, ⟨32, _⟩ => ⟨S_, .f32⟩
  | .hbm, ⟨33, _⟩ => ⟨S2x8x4352x127, .f32⟩
  | .hbm, ⟨34, _⟩ => ⟨S2x8x4352x128, .f32⟩
  | .hbm, ⟨35, _⟩ => ⟨S2x8x4352x256, .f32⟩
  | .hbm, ⟨36, _⟩ => ⟨S2x8x4352x256, .bf16⟩
  | .hbm, ⟨37, _⟩ => ⟨S272x272, .bf16⟩
  | .hbm, ⟨38, _⟩ => ⟨S8192x1024, .bf16⟩
  | .hbm, ⟨39, _⟩ => ⟨S2x4352x1024, .bf16⟩
  | .hbm, ⟨40, _⟩ => ⟨S512x2048, .bf16⟩
  | .hbm, ⟨41, _⟩ => ⟨S1024x2048, .bf16⟩
  | .hbm, ⟨42, _⟩ => ⟨S512x2048, .bf16⟩
  | .hbm, ⟨43, _⟩ => ⟨S2048x2048, .bf16⟩
  | .hbm, ⟨44, _⟩ => ⟨S2048x5632, .bf16⟩
  | .hbm, ⟨45, _⟩ => ⟨S2048x5632, .bf16⟩
  | .hbm, ⟨46, _⟩ => ⟨S5632x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x1x4352x256, .bf16⟩
  | .local _ .vmem, ⟨3, _⟩ => ⟨S1x1x4352x256, .bf16⟩
  | .local _ .vmem, ⟨4, _⟩ => ⟨S1x1x4352x256, .bf16⟩
  | .local _ .vmem, ⟨5, _⟩ => ⟨S1x1x4352x256, .bf16⟩
  | .local _ .vmem, ⟨6, _⟩ => ⟨S272x512, .bf16⟩
  | .local _ .vmem, ⟨7, _⟩ => ⟨S272x512, .bf16⟩
  | .local _ .vmem, ⟨8, _⟩ => ⟨S512x1024, .bf16⟩
  | .local _ .vmem, ⟨9, _⟩ => ⟨S272x272, .bf16⟩
  | .local _ .vmem, ⟨10, _⟩ => ⟨S1x16x2048, .f32⟩
  | .local _ .vmem, ⟨11, _⟩ => ⟨S1x16x2048, .f32⟩
  | .local _ .vmem, ⟨12, _⟩ => ⟨S1x32x2048, .f32⟩
  | .local _ .vmem, ⟨13, _⟩ => ⟨S1x32x2048, .f32⟩
  | .local _ .vmem, ⟨14, _⟩ => ⟨S1x16x2048, .f32⟩
  | .local _ .vmem, ⟨15, _⟩ => ⟨S1x16x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x5632, .f32⟩
  | .local _ .vmem, ⟨19, _⟩ => ⟨S1x64x5632, .f32⟩
  | .local _ .vmem, ⟨20, _⟩ => ⟨S1x64x5632, .f32⟩
  | .local _ .vmem, ⟨21, _⟩ => ⟨S1x64x5632, .f32⟩
  | .local _ .vmem, ⟨22, _⟩ => ⟨S1x176x2048, .f32⟩
  | .local _ .vmem, ⟨23, _⟩ => ⟨S1x176x2048, .f32⟩
  | .local _ .vmem, ⟨24, _⟩ => ⟨S2048x128, .bf16⟩
  | .local _ .vmem, ⟨25, _⟩ => ⟨S2048x128, .bf16⟩
  | .local _ .vmem, ⟨26, _⟩ => ⟨S2x136x1024, .bf16⟩
  | .local _ .vmem, ⟨27, _⟩ => ⟨S2x136x1024, .bf16⟩
  | .local _ .vmem, ⟨28, _⟩ => ⟨S16x2048, .bf16⟩
  | .local _ .vmem, ⟨29, _⟩ => ⟨S16x2048, .bf16⟩
  | .local _ .vmem, ⟨30, _⟩ => ⟨S32x2048, .bf16⟩
  | .local _ .vmem, ⟨31, _⟩ => ⟨S32x2048, .bf16⟩
  | .local _ .vmem, ⟨32, _⟩ => ⟨S16x2048, .bf16⟩
  | .local _ .vmem, ⟨33, _⟩ => ⟨S16x2048, .bf16⟩
  | .local _ .vmem, ⟨34, _⟩ => ⟨S64x2048, .bf16⟩
  | .local _ .vmem, ⟨35, _⟩ => ⟨S64x2048, .bf16⟩
  | .local _ .vmem, ⟨36, _⟩ => ⟨S64x5632, .bf16⟩
  | .local _ .vmem, ⟨37, _⟩ => ⟨S64x5632, .bf16⟩
  | .local _ .vmem, ⟨38, _⟩ => ⟨S64x5632, .bf16⟩
  | .local _ .vmem, ⟨39, _⟩ => ⟨S64x5632, .bf16⟩
  | .local _ .vmem, ⟨40, _⟩ => ⟨S176x2048, .bf16⟩
  | .local _ .vmem, ⟨41, _⟩ => ⟨S176x2048, .bf16⟩
  | _, _ => ⟨S8704x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_cst_1 : Ref sig .tc := ⟨.hbm, 15, rfl⟩
abbrev main_v1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v19_3 : Ref sig .tc := ⟨.hbm, 41, rfl⟩
abbrev main_v19_4 : Ref sig .tc := ⟨.hbm, 42, rfl⟩
abbrev main_v19_5 : Ref sig .tc := ⟨.hbm, 43, rfl⟩
abbrev main_v19_6 : Ref sig .tc := ⟨.hbm, 44, rfl⟩
abbrev main_v19_7 : Ref sig .tc := ⟨.hbm, 45, rfl⟩
abbrev main_v19_8 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c12_i32 : BitVec 32 := 12#32
  let c0_i32 : BitVec 32 := 0#32
  ![v3.toNat, c12_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_21 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S272x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S272x272 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x64x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x176x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S2x136x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S32x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S16x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S64x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S64x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S64x5632 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S176x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]
-- ==== Reference5Ideal.lean ====
abbrev S8704x8x192 : Shape := ⟨3, ![8704, 8, 192]⟩
abbrev S2x4352x8x192 : Shape := ⟨4, ![2, 4352, 8, 192]⟩
abbrev S2x4352x8x128 : Shape := ⟨4, ![2, 4352, 8, 128]⟩
abbrev S8704x9216 : Shape := ⟨2, ![8704, 9216]⟩
abbrev S512x1024 : Shape := ⟨2, ![512, 1024]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2048x5632 : Shape := ⟨3, ![2, 2048, 5632]⟩
abbrev S2x5632x2048 : Shape := ⟨3, ![2, 5632, 2048]⟩
abbrev S8192x8x192 : Shape := ⟨3, ![8192, 8, 192]⟩
abbrev S2x4096x8x192 : Shape := ⟨4, ![2, 4096, 8, 192]⟩
abbrev S2x8x4096x4352 : Shape := ⟨4, ![2, 8, 4096, 4352]⟩
abbrev S_ : Shape := ⟨0, ![]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x8x128 : Shape := ⟨4, ![2, 4096, 8, 128]⟩
abbrev S8704x512 : Shape := ⟨2, ![8704, 512]⟩
abbrev S8704x1024 : Shape := ⟨2, ![8704, 1024]⟩
abbrev S4352x2x2x512 : Shape := ⟨4, ![4352, 2, 2, 512]⟩
abbrev S2x4352x2x512 : Shape := ⟨4, ![2, 4352, 2, 512]⟩
abbrev S2x4352x1024 : Shape := ⟨3, ![2, 4352, 1024]⟩
abbrev S8192x1024 : Shape := ⟨2, ![8192, 1024]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8704x8x192, .f32⟩
  | .hbm, ⟨1, _⟩ => ⟨S2x4352x8x192, .f32⟩
  | .hbm, ⟨2, _⟩ => ⟨S2x4352x8x128, .f32⟩
  | .hbm, ⟨3, _⟩ => ⟨S8704x9216, .bf16⟩
  | .hbm, ⟨4, _⟩ => ⟨S512x1024, .bf16⟩
  | .hbm, ⟨5, _⟩ => ⟨S2x512x2048, .f32⟩
  | .hbm, ⟨6, _⟩ => ⟨S2x1024x2048, .f32⟩
  | .hbm, ⟨7, _⟩ => ⟨S2x512x2048, .f32⟩
  | .hbm, ⟨8, _⟩ => ⟨S2x2048x2048, .f32⟩
  | .hbm, ⟨9, _⟩ => ⟨S2x2048x5632, .f32⟩
  | .hbm, ⟨10, _⟩ => ⟨S2x2048x5632, .f32⟩
  | .hbm, ⟨11, _⟩ => ⟨S2x5632x2048, .f32⟩
  | .hbm, ⟨12, _⟩ => ⟨S8192x8x192, .f32⟩
  | .hbm, ⟨13, _⟩ => ⟨S2x4096x8x192, .f32⟩
  | .hbm, ⟨14, _⟩ => ⟨S2x8x4096x4352, .f32⟩
  | .hbm, ⟨15, _⟩ => ⟨S_, .f32⟩
  | .hbm, ⟨16, _⟩ => ⟨S_, .f32⟩
  | .hbm, ⟨17, _⟩ => ⟨S2x8x4096x4352, .f32⟩
  | .hbm, ⟨18, _⟩ => ⟨S2x8x4096x4352, .f32⟩
  | .hbm, ⟨19, _⟩ => ⟨S_, .f32⟩
  | .hbm, ⟨20, _⟩ => ⟨S2x8x4096, .f32⟩
  | .hbm, ⟨21, _⟩ => ⟨S_, .f32⟩
  | .hbm, ⟨22, _⟩ => ⟨S2x8x4096, .f32⟩
  | .hbm, ⟨23, _⟩ => ⟨S2x8x4096, .f32⟩
  | .hbm, ⟨24, _⟩ => ⟨S2x8x4096x1, .f32⟩
  | .hbm, ⟨25, _⟩ => ⟨S2x8x4096x4352, .f32⟩
  | .hbm, ⟨26, _⟩ => ⟨S2x8x4096x4352, .f32⟩
  | .hbm, ⟨27, _⟩ => ⟨S2x8x4096x4352, .f32⟩
  | .hbm, ⟨28, _⟩ => ⟨S_, .f32⟩
  | .hbm, ⟨29, _⟩ => ⟨S2x8x4096, .f32⟩
  | .hbm, ⟨30, _⟩ => ⟨S2x8x4096x1, .f32⟩
  | .hbm, ⟨31, _⟩ => ⟨S2x8x4096x4352, .f32⟩
  | .hbm, ⟨32, _⟩ => ⟨S2x8x4096x4352, .f32⟩
  | .hbm, ⟨33, _⟩ => ⟨S2x8x128x4096, .f32⟩
  | .hbm, ⟨34, _⟩ => ⟨S2x4096x8x128, .f32⟩
  | .hbm, ⟨35, _⟩ => ⟨S8704x512, .bf16⟩
  | .hbm, ⟨36, _⟩ => ⟨S8704x512, .f32⟩
  | .hbm, ⟨37, _⟩ => ⟨S512x1024, .f32⟩
  | .hbm, ⟨38, _⟩ => ⟨S8704x1024, .f32⟩
  | .hbm, ⟨39, _⟩ => ⟨S4352x2x2x512, .f32⟩
  | .hbm, ⟨40, _⟩ => ⟨S2x4352x2x512, .f32⟩
  | .hbm, ⟨41, _⟩ => ⟨S2x4352x1024, .f32⟩
  | .hbm, ⟨42, _⟩ => ⟨S8192x1024, .f32⟩
  | .hbm, ⟨43, _⟩ => ⟨S8192x1024, .bf16⟩
  | .hbm, ⟨44, _⟩ => ⟨S2x4352x1024, .bf16⟩
  | .hbm, ⟨45, _⟩ => ⟨S1x512x2048, .f32⟩
  | .hbm, ⟨46, _⟩ => ⟨S512x2048, .f32⟩
  | .hbm, ⟨47, _⟩ => ⟨S512x2048, .bf16⟩
  | .hbm, ⟨48, _⟩ => ⟨S1x1024x2048, .f32⟩
  | .hbm, ⟨49, _⟩ => ⟨S1024x2048, .f32⟩
  | .hbm, ⟨50, _⟩ => ⟨S1024x2048, .bf16⟩
  | .hbm, ⟨51, _⟩ => ⟨S1x512x2048, .f32⟩
  | .hbm, ⟨52, _⟩ => ⟨S512x2048, .f32⟩
  | .hbm, ⟨53, _⟩ => ⟨S512x2048, .bf16⟩
  | .hbm, ⟨54, _⟩ => ⟨S1x2048x2048, .f32⟩
  | .hbm, ⟨55, _⟩ => ⟨S2048x2048, .f32⟩
  | .hbm, ⟨56, _⟩ => ⟨S2048x2048, .bf16⟩
  | .hbm, ⟨57, _⟩ => ⟨S1x2048x5632, .f32⟩
  | .hbm, ⟨58, _⟩ => ⟨S2048x5632, .f32⟩
  | .hbm, ⟨59, _⟩ => ⟨S2048x5632, .bf16⟩
  | .hbm, ⟨60, _⟩ => ⟨S1x2048x5632, .f32⟩
  | .hbm, ⟨61, _⟩ => ⟨S2048x5632, .f32⟩
  | .hbm, ⟨62, _⟩ => ⟨S2048x5632, .bf16⟩
  | .hbm, ⟨63, _⟩ => ⟨S1x5632x2048, .f32⟩
  | .hbm, ⟨64, _⟩ => ⟨S5632x2048, .f32⟩
  | .hbm, ⟨65, _⟩ => ⟨S5632x2048, .bf16⟩
  | _, _ => ⟨S8704x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Kernel6.lean ====
abbrev S8704x2048 : Shape := ⟨2, ![8704, 2048]⟩
abbrev S2x2048x9024 : Shape := ⟨3, ![2, 2048, 9024]⟩
abbrev S2x6144 : Shape := ⟨2, ![2, 6144]⟩
abbrev S2x1x6144 : Shape := ⟨3, ![2, 1, 6144]⟩
abbrev S_ : Shape := ⟨0, ![]⟩
abbrev S2x1x3072 : Shape := ⟨3, ![2, 1, 3072]⟩
abbrev S2x1x9216 : Shape := ⟨3, ![2, 1, 9216]⟩
abbrev S2x9024x2048 : Shape := ⟨3, ![2, 9024, 2048]⟩
abbrev S8704x9216 : Shape := ⟨2, ![8704, 9216]⟩
abbrev S1088x2048 : Shape := ⟨2, ![1088, 2048]⟩
abbrev S1x1536x2048 : Shape := ⟨3, ![1, 1536, 2048]⟩
abbrev S1x1x1536 : Shape := ⟨3, ![1, 1, 1536]⟩
abbrev S1088x1536 : Shape := ⟨2, ![1088, 1536]⟩
abbrev S1536x2048 : Shape := ⟨2, ![1536, 2048]⟩
abbrev S1x1344x2048 : Shape := ⟨3, ![1, 1344, 2048]⟩
abbrev S1344x2048 : Shape := ⟨2, ![1344, 2048]⟩
abbrev S64x2048 : Shape := ⟨2, ![64, 2048]⟩
abbrev S1x32x2048 : Shape := ⟨3, ![1, 32, 2048]⟩
abbrev S32x2048 : Shape := ⟨2, ![32, 2048]⟩
abbrev S512x2048 : Shape := ⟨2, ![512, 2048]⟩
abbrev S1088x512 : Shape := ⟨2, ![1088, 512]⟩
abbrev S1x1x512 : Shape := ⟨3, ![1, 1, 512]⟩
abbrev S1x512 : Shape := ⟨2, ![1, 512]⟩

abbrev nBuf : Space → Nat
  | .hbm => 9
  | .vmem => 9
  | .smem => 0
  | _ => 0

abbrev bufTy : (tb : Table) → Fin (tcTables nBuf tb) → BufTy
  | .hbm, ⟨0, _⟩ => ⟨S8704x2048, .bf16⟩
  | .hbm, ⟨1, _⟩ => ⟨S2x2048x9024, .f32⟩
  | .hbm, ⟨2, _⟩ => ⟨S2x6144, .f32⟩
  | .hbm, ⟨3, _⟩ => ⟨S2x1x6144, .f32⟩
  | .hbm, ⟨4, _⟩ => ⟨S_, .f32⟩
  | .hbm, ⟨5, _⟩ => ⟨S2x1x3072, .f32⟩
  | .hbm, ⟨6, _⟩ => ⟨S2x1x9216, .f32⟩
  | .hbm, ⟨7, _⟩ => ⟨S2x9024x2048, .f32⟩
  | .hbm, ⟨8, _⟩ => ⟨S8704x9216, .bf16⟩
  | .local _ .vmem, ⟨0, _⟩ => ⟨S1088x2048, .bf16⟩
  | .local _ .vmem, ⟨1, _⟩ => ⟨S1088x2048, .bf16⟩
  | .local _ .vmem, ⟨2, _⟩ => ⟨S1x1536x2048, .f32⟩
  | .local _ .vmem, ⟨3, _⟩ => ⟨S1x1536x2048, .f32⟩
  | .local _ .vmem, ⟨4, _⟩ => ⟨S1x1x1536, .f32⟩
  | .local _ .vmem, ⟨5, _⟩ => ⟨S1x1x1536, .f32⟩
  | .local _ .vmem, ⟨6, _⟩ => ⟨S1088x1536, .bf16⟩
  | .local _ .vmem, ⟨7, _⟩ => ⟨S1088x1536, .bf16⟩
  | .local _ .vmem, ⟨8, _⟩ => ⟨S1536x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c8_i32 : BitVec 32 := 8#32
  let v1 : BitVec 32 := Scalar.muli arg0 c8_i32
  let c15_i32 : BitVec 32 := 15#32
  let v2 : BitVec 32 := Scalar.addi c15_i32 v1
  let c4_i32_0 : BitVec 32 := 4#32
  let v3 : BitVec 1 := Scalar.cmpi .eq arg0 c4_i32_0
  let c0_i32 : BitVec 32 := 0#32
  let c7_i32 : BitVec 32 := 7#32
  let v4 : BitVec 32 := Scalar.select v3 c0_i32 c7_i32
  let v5 : BitVec 32 := Scalar.select v0 v2 v4
  let c192_i32 : BitVec 32 := 192#32
  let v6 : BitVec 32 := Scalar.muli v5 c192_i32
  let c1_i32 : BitVec 32 := 1#32
  let c0_i32_1 : BitVec 32 := 0#32
  let c0_i32_2 : BitVec 32 := 0#32
  ![c1_i32.toNat, v6.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1536x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8704x2048 : Shape := ⟨2, ![8704, 2048]⟩
abbrev S2x2048x9024 : Shape := ⟨3, ![2, 2048, 9024]⟩
abbrev S2x6144 : Shape := ⟨2, ![2, 6144]⟩
abbrev S1x2048x9024 : Shape := ⟨3, ![1, 2048, 9024]⟩
abbrev S2048x9024 : Shape := ⟨2, ![2048, 9024]⟩
abbrev S8704x9024 : Shape := ⟨2, ![8704, 9024]⟩
abbrev S8704x6144 : Shape := ⟨2, ![8704, 6144]⟩
abbrev S1x6144 : Shape := ⟨2, ![1, 6144]⟩
abbrev S6144 : Shape := ⟨1, ![6144]⟩
abbrev S_ : Shape := ⟨0, ![]⟩
abbrev S8704x64 : Shape := ⟨2, ![8704, 64]⟩
abbrev S8704x1344 : Shape := ⟨2, ![8704, 1344]⟩
abbrev S8704x32 : Shape := ⟨2, ![8704, 32]⟩
abbrev S8704x1536 : Shape := ⟨2, ![8704, 1536]⟩
abbrev S8704x9216 : Shape := ⟨2, ![8704, 9216]⟩

abbrev nBuf : Space → Nat
  | .hbm => 29
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x9024, .f32⟩
  | .hbm, ⟨2, _⟩ => ⟨S2x6144, .f32⟩
  | .hbm, ⟨3, _⟩ => ⟨S8704x2048, .f32⟩
  | .hbm, ⟨4, _⟩ => ⟨S1x2048x9024, .f32⟩
  | .hbm, ⟨5, _⟩ => ⟨S2048x9024, .f32⟩
  | .hbm, ⟨6, _⟩ => ⟨S8704x9024, .f32⟩
  | .hbm, ⟨7, _⟩ => ⟨S8704x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S8704x6144, .f32⟩
  | .hbm, ⟨12, _⟩ => ⟨S8704x6144, .f32⟩
  | .hbm, ⟨13, _⟩ => ⟨S8704x6144, .f32⟩
  | .hbm, ⟨14, _⟩ => ⟨S8704x6144, .f32⟩
  | .hbm, ⟨15, _⟩ => ⟨S_, .f32⟩
  | .hbm, ⟨16, _⟩ => ⟨S8704x6144, .f32⟩
  | .hbm, ⟨17, _⟩ => ⟨S8704x6144, .f32⟩
  | .hbm, ⟨18, _⟩ => ⟨S_, .f32⟩
  | .hbm, ⟨19, _⟩ => ⟨S8704x6144, .f32⟩
  | .hbm, ⟨20, _⟩ => ⟨S8704x6144, .f32⟩
  | .hbm, ⟨21, _⟩ => ⟨S_, .f32⟩
  | .hbm, ⟨22, _⟩ => ⟨S8704x64, .f32⟩
  | .hbm, ⟨23, _⟩ => ⟨S8704x1344, .f32⟩
  | .hbm, ⟨24, _⟩ => ⟨S8704x32, .f32⟩
  | .hbm, ⟨25, _⟩ => ⟨S8704x32, .f32⟩
  | .hbm, ⟨26, _⟩ => ⟨S8704x1536, .f32⟩
  | .hbm, ⟨27, _⟩ => ⟨S8704x9216, .f32⟩
  | .hbm, ⟨28, _⟩ => ⟨S8704x9216, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.InprojScratch.lean ====
module

public import proofs.«01_k».proof.Proof.Gen.KernelIdeal.Frame
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Inproj

open Cert.KernelIdeal Cert.KernelIdeal.Gen

variable (m : (ℓ : Loc nD τ sig) → Buf (Elt Ideal) ℓ)

/-- The weight rows of a tile that the kernel keeps as they are. -/
def plainRows (B : FVec Ideal S1x1536x2048 .f32) : FVec Ideal S1536x2048 .bf16 := fun y =>
  B (ix3 (0 : Fin 1) (y 0) (y 1))

/-- The weight rows of the tile that the kernel rearranges: the first 1344 rows stay, the two halves of the
    shared rotary key come again in the other order, and the rest is zero. -/
def packedRows (B : FVec Ideal S1x1536x2048 .f32) : FVec Ideal S1536x2048 .bf16 := fun y =>
  if (y 0 : ℕ) < 1344 then B (ix3 (0 : Fin 1) (y 0) (y 1))
  else if (y 0 : ℕ) < 1408 then 0
  else if (y 0 : ℕ) < 1440 then B (ix3 (0 : Fin 1) ⟨(y 0 : ℕ) - 96, by have h := (y 0).isLt; dsimp at h; omega⟩ (y 1))
  else if (y 0 : ℕ) < 1472 then B (ix3 (0 : Fin 1) ⟨(y 0 : ℕ) - 160, by have h := (y 0).isLt; dsimp at h; omega⟩ (y 1))
  else 0

theorem idx1 : ∀ t : Fin cfg0.N, win0_0.index t = ![t.val % 8, 0] ∧ win0_2.index t = ![0, 0, t.val / 8]
    ∧ win0_3.index t = ![t.val % 8, t.val / 8] :=
  (by decide +kernel : ∀ t : Fin grid0.N, _)

/-- What a point stores into its output tile, column chunk by column chunk, from its rows, the packed weights and the bias. -/
def outTile (i : grid0.Coords) (h : FVec Ideal S1088x2048 .bf16) (s : FVec Ideal S1536x2048 .bf16)
    (b : FVec Ideal S1x1x1536 .f32) : FVec Ideal S1088x1536 .bf16 :=
  View.canon (Val := Elt Ideal) (s := S1088x1536) (e := .bf16) [⟨Rect.unit ![0, 1024] ![1088, 512] inb_S1088x1536_S1088x512_0_1024,
      k0_pay2 (F := Ideal) (Scalar.cmpi CmpIPredicate.slt (BitVec.ofNat 32 ↑(i 0)) 4#32) h
        (View.ld (Val := Elt Ideal) (e' := .bf16) s (Rect.unit ![1024, 0] ![512, 2048] inb_S1536x2048_S512x2048_1024_0))
        (View.ld (Val := Elt Ideal) (e' := .f32) b (Rect.unit ![0, 0, 1024] ![1, 1, 512] inb_S1x1x1536_S1x1x512_0_0_1024))⟩,
    ⟨Rect.unit ![0, 512] ![1088, 512] inb_S1088x1536_S1088x512_0_512,
      k0_pay1 (F := Ideal) (Scalar.cmpi CmpIPredicate.slt (BitVec.ofNat 32 ↑(i 0)) 4#32)
        (k0_pay10 (F := Ideal) h (View.ld (Val := Elt Ideal) (e' := .bf16) s (Rect.unit ![512, 0] ![512, 2048] inb_S1536x2048_S512x2048_512_0))
          (View.ld (Val := Elt Ideal) (e' := .f32) b (Rect.unit ![0, 0, 512] ![1, 1, 512] inb_S1x1x1536_S1x1x512_0_0_512)))
        (k0_pay11 (F := Ideal) h (View.ld (Val := Elt Ideal) (e' := .bf16) s (Rect.unit ![512, 0] ![512, 2048] inb_S1536x2048_S512x2048_512_0))
          (View.ld (Val := Elt Ideal) (e' := .f32) b (Rect.unit ![0, 0, 512] ![1, 1, 512] inb_S1x1x1536_S1x1x512_0_0_512)))⟩,
    ⟨Rect.unit ![0, 0] ![1088, 512] inb_S1088x1536_S1088x512_0_0,
      k0_pay9 (F := Ideal) i h (View.ld (Val := Elt Ideal) (e' := .bf16) s (Rect.unit ![0, 0] ![512, 2048] inb_S1536x2048_S512x2048_0_0))
        (View.ld (Val := Elt Ideal) (e' := .f32) b (Rect.unit ![0, 0, 0] ![1, 1, 512] inb_S1x1x1536_S1x1x512_0_0_0))⟩]

theorem pay8_at (B : FVec Ideal S1x1536x2048 .f32) (y) : k0_pay8 B y = plainRows B y := by
  pointwise [k0_pay8, plainRows]

theorem scrA (c : Dev nD) (t : Fin cfg0.N) (h0 : t.val % 8 = 0) (h1 : ¬t.val / 8 % 6 = 4) (h2 : t.val / 8 % 6 ≠ 4) (y) :
    (outsAt0 m c t.val t.isLt).2 y = plainRows (iblk m c 1 t) y := by
  rw [outsAt0_A m c t h0 h1 h2]
  frame_out
  exact pay8_at _ y

theorem scrC (c : Dev nD) (t : Fin cfg0.N) (h0 : t.val % 8 = 0) (h1 : t.val / 8 % 6 = 4) (h2 : ¬t.val / 8 % 6 ≠ 4) (y) :
    (outsAt0 m c t.val t.isLt).2 y = packedRows (iblk m c 1 t) y := by
  rw [outsAt0_C m c t h0 h1 h2]
  frame_out
  canon_tiles x h using View.cover_of_tiledBy _ ![32, 2048] (by sl_kernel_rfl) y
  all_goals unfold packedRows
  case piece0 =>
    rw [if_neg (by omega), if_neg (by omega), if_neg (by omega), if_neg (by omega)]
    pointwise [k0_pay7]
  case piece1 =>
    rw [if_neg (by omega), if_neg (by omega), if_neg (by omega), if_pos (by omega)]
    pointwise [k0_pay6]
    blk_ext
  case piece2 =>
    rw [if_neg (by omega), if_neg (by omega), if_pos (by omega)]
    pointwise [k0_pay5]
    blk_ext
  case piece3 =>
    rw [if_neg (by omega), if_pos (by omega)]
    pointwise [k0_pay4]
  case piece4 =>
    rw [if_pos (by omega)]
    pointwise [k0_pay3]
    blk_ext

theorem outB (c : Dev nD) (t : Fin cfg0.N) (h0 : ¬t.val % 8 = 0) :
    (outsAt0 m c t.val t.isLt).1 = outTile (grid0.coords t) (iblk m c 0 t) (outsAt0 m c t.val t.isLt).2 (iblk m c 2 t) := by
  rw [outsAt0_B m c t h0]
  frame_out
  simp only [read_unread_whole]
  rfl

theorem outA (c : Dev nD) (t : Fin cfg0.N) (h0 : t.val % 8 = 0) (h1 : ¬t.val / 8 % 6 = 4) (h2 : t.val / 8 % 6 ≠ 4) :
    (outsAt0 m c t.val t.isLt).1 = outTile (grid0.coords t) (iblk m c 0 t) (outsAt0 m c t.val t.isLt).2 (iblk m c 2 t) := by
  rw [outsAt0_A m c t h0 h1 h2]
  frame_open
  simp (disch := decide) only [↓ View.readCov_skip, ↓ View.readCov_cons_toLoadRect, ↓ View.readCov_fill]
  frame_out

theorem outC (c : Dev nD) (t : Fin cfg0.N) (h0 : t.val % 8 = 0) (h1 : t.val / 8 % 6 = 4) (h2 : ¬t.val / 8 % 6 ≠ 4) :
    (outsAt0 m c t.val t.isLt).1 = outTile (grid0.coords t) (iblk m c 0 t) (outsAt0 m c t.val t.isLt).2 (iblk m c 2 t) := by
  rw [outsAt0_C m c t h0 h1 h2]
  frame_open
  simp only [View.readCov_eq_canon']
  frame_out

/-- The kernel's test of the tile's number, as a bit. -/
theorem gate_bit : ∀ n : Fin 6, Scalar.cmpi CmpIPredicate.slt (BitVec.ofNat 32 (n : ℕ)) 4#32 = if (n : ℕ) < 4 then 1#1 else 0#1 := by
  decide

/-- Where the tile is a gate the selected value is the logistic function of the row's product. -/
theorem gate_at (n : Fin 6) (z : EReal) :
    Scalar.select (Scalar.cmpi CmpIPredicate.slt (BitVec.ofNat 32 (n : ℕ)) 4#32) (Ideal.div 1 (1 + Ideal.exp (0 - z))) z
      = if (n : ℕ) < 4 then Ideal.logistic z else z := by
  rw [gate_bit n]
  by_cases h : (n : ℕ) < 4
  · rw [if_pos h, if_pos h]
    show Ideal.div 1 (1 + Ideal.exp (0 - z)) = Ideal.div 1 (1 + Ideal.exp (-z))
    rw [zero_sub]
  · rw [if_neg h, if_neg h]
    rfl

theorem outTile_at (i : grid0.Coords) (h : FVec Ideal S1088x2048 .bf16) (s : FVec Ideal S1536x2048 .bf16)
    (b : FVec Ideal S1x1x1536 .f32) (y : S1088x1536.Idx) : outTile i h s b y =
      if (i 0 : ℕ) < 4 then Ideal.logistic ((∑ k : Fin 2048, h (ix2 (y 0) k) * s (ix2 (y 1) k)) + b (ix3 (0 : Fin 1) (0 : Fin 1) (y 1)))
      else (∑ k : Fin 2048, h (ix2 (y 0) k) * s (ix2 (y 1) k)) + b (ix3 (0 : Fin 1) (0 : Fin 1) (y 1)) := by
  unfold outTile
  canon_tiles x h
  case piece0 =>
    pointwise [k0_pay2]
    refine (gate_at (i 0) _).trans ?_
    blk_point []
  case piece1 =>
    pointwise [k0_pay1, k0_pay10, k0_pay11]
    refine (gate_at (i 0) _).trans ?_
    blk_point []
  case piece2 =>
    pointwise [k0_pay9]
    refine (gate_at (i 0) _).trans ?_
    blk_point []

/-- The packed weights that every point of a column tile multiplies by. -/
theorem scratch_at (c : Dev nD) (t : Fin cfg0.N) (y) : (outsAt0 m c t.val t.isLt).2 y =
    if t.val / 8 = 4 then packedRows (iblk m c 1 ⟨8 * (t.val / 8), Pipeline.run_start_lt t⟩) y
    else plainRows (iblk m c 1 ⟨8 * (t.val / 8), Pipeline.run_start_lt t⟩) y := by
  have e := Pipeline.eq_of_write_hold_apply (fun n h => (outsAt0 m c n h).2) 8
    (fun t y => if t.val / 8 = 4 then packedRows (iblk m c 1 t) y else plainRows (iblk m c 1 t) y)
    (fun t h y => by
      have hN := lt_of_lt_of_eq t.isLt (show cfg0.N = 48 from N_0)
      by_cases h1 : t.val / 8 % 6 = 4
      · rw [if_pos (by omega)]; exact scrC m c t h h1 (by omega) y
      · rw [if_neg (by omega)]; exact scrA m c t h h1 h1 y)
    (fun t h y => by rw [outsAt0_B m c t h]; rfl) t y
  refine e.trans ?_
  have hN := lt_of_lt_of_eq t.isLt (show cfg0.N = 48 from N_0)
  have e4 : 8 * (t.val / 8) / 8 = t.val / 8 := by omega
  simp only [e4]

/-- Every point stores its tile from its rows and the packed weights. -/
theorem out_eq (c : Dev nD) (t : Fin cfg0.N) : (outsAt0 m c t.val t.isLt).1
    = outTile (grid0.coords t) (iblk m c 0 t) (outsAt0 m c t.val t.isLt).2 (iblk m c 2 t) := by
  have hN := lt_of_lt_of_eq t.isLt (show cfg0.N = 48 from N_0)
  by_cases h : t.val % 8 = 0
  · by_cases h1 : t.val / 8 % 6 = 4
    · exact outC m c t h h1 (by omega)
    · exact outA m c t h h1 h1
  · exact outB m c t h

end Cert.KernelIdeal.Inproj

end
-- ==== Proof.InprojValue.lean ====
module

public import proofs.«01_k».proof.Proof.InprojScratch
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Inproj

open Cert.KernelIdeal Cert.KernelIdeal.Gen

/-- Row `r` of the normalised rows times column `q` of the first layer's input weights. -/
def proj (h : FVec Ideal S8704x2048 .bf16) (w : FVec Ideal S2x2048x9024 .f32) (r : Fin 8704) (q : ℕ) (hq : q < 9024) : EReal :=
  ∑ k : Fin 2048, h (ix2 r k) * w (ix3 (0 : Fin 2) k ⟨q, hq⟩)

/-- The packed projection, entry by entry: the gates first, then the latents and the shared rotary key, 64 zeros,
    the key's halves in the other order, 64 zeros, and the kernel-branch columns. -/
def packed (h : FVec Ideal S8704x2048 .bf16) (w : FVec Ideal S2x2048x9024 .f32) (b : FVec Ideal S2x6144 .f32) :
    FVec Ideal S8704x9216 .bf16 := fun y =>
  if h0 : (y 1 : ℕ) < 6144 then Ideal.logistic (proj h w (y 0) (2880 + (y 1 : ℕ)) (by omega) + b (ix2 (0 : Fin 2) ⟨(y 1 : ℕ), h0⟩))
  else if h1 : (y 1 : ℕ) < 7488 then proj h w (y 0) ((y 1 : ℕ) - 6144) (by omega)
  else if h2 : (y 1 : ℕ) < 7552 then 0
  else if h3 : (y 1 : ℕ) < 7584 then proj h w (y 0) ((y 1 : ℕ) - 6240) (by omega)
  else if h4 : (y 1 : ℕ) < 7616 then proj h w (y 0) ((y 1 : ℕ) - 6304) (by omega)
  else if h5 : (y 1 : ℕ) < 7680 then 0
  else proj h w (y 0) ((y 1 : ℕ) - 6336) (by have h := (y 1).isLt; dsimp at h; omega)

variable (m : (ℓ : Loc nD τ sig) → Buf (Elt Ideal) ℓ)

/-- The first weight column of each column tile. -/
def srcCol (j : ℕ) : ℕ := if j < 4 then 2880 + 1536 * j else if j = 4 then 0 else 1344

theorem idxW : ∀ t : Fin cfg0.N, win0_1.index t = ![0, srcCol (t.val / 8), 0] :=
  (by decide +kernel : ∀ t : Fin grid0.N, _)

theorem coord0 : ∀ t : Fin cfg0.N, ((grid0.coords t) 0 : ℕ) = t.val / 8 :=
  (by decide +kernel : ∀ t : Fin grid0.N, _)

theorem srcCol_le (j : ℕ) (hj : j < 6) : srcCol j + 1536 ≤ 9024 := by
  unfold srcCol; split_ifs <;> omega

/-- Where an entry of a point's weight block lies in the array. -/
theorem wemb (t : Fin cfg0.N) (y : S1x1536x2048.Idx) (a : Fin 3) :
    ((((View.whole main_v3).slice (win0_1.rect t)).emb y a : Fin _) : ℕ) = win0_1.index t a + (y a : ℕ) :=
  Idealize.ShloMosaic.ValueKit.view_emb_slice_whole_unit_val _ _ _ _ _ _

/-- The weight block of a point, entry by entry. -/
theorem wblock_at (c : Dev nD) (t : Fin cfg0.N) (e : Fin 1536) (k : Fin 2048) :
    (iblk m c 1 t : FVec Ideal S1x1536x2048 .f32) (ix3 (0 : Fin 1) e k)
      = (m ((c.tc : Thread nD τ).loc main_arg1) : FVec Ideal S2x2048x9024 .f32) (ix3 (0 : Fin 2) k ⟨srcCol (t.val / 8) + e.val, by
          have hN := lt_of_lt_of_eq t.isLt (show cfg0.N = 48 from N_0)
          have := srcCol_le (t.val / 8) (by omega); omega⟩) := by
  have hN := lt_of_lt_of_eq t.isLt (show cfg0.N = 48 from N_0)
  have hs := srcCol_le (t.val / 8) (by omega)
  blk_simp [iblk]
  entry_read
  pointwise
  refine congrArg _ (congr (congr (congrArg ix3 (Fin.ext ?_)) (Fin.ext ?_)) (Fin.ext ?_))
  · rw [wemb t, idxW t]; rfl
  · rw [wemb t, idxW t]; exact Nat.zero_add _
  · rw [wemb t, idxW t]; rfl

/-- The bias of a point, entry by entry. -/
theorem bias_at (c : Dev nD) (t : Fin cfg0.N) (e : Fin 1536) :
    (iblk m c 2 t : FVec Ideal S1x1x1536 .f32) (ix3 (0 : Fin 1) (0 : Fin 1) e)
      = if hj : 1536 * (t.val / 8) + e.val < 6144 then
          (m ((c.tc : Thread nD τ).loc main_arg2) : FVec Ideal S2x6144 .f32) (ix2 (0 : Fin 2) ⟨1536 * (t.val / 8) + e.val, hj⟩)
        else (0 : EReal) := by
  have hN := lt_of_lt_of_eq t.isLt (show cfg0.N = 48 from N_0)
  blk_simp [iblk]
  entry_read
  pointwise
  have e2 : ((((View.whole main_v2).slice (win0_2.rect t)).emb (ix3 (0 : Fin 1) (0 : Fin 1) e) 2 : Fin 9216) : ℕ) = 1536 * (t.val / 8) + e.val := by
    blk_simp [(idx1 t).2.1]
    omega
  by_cases hj : 1536 * (t.val / 8) + e.val < 6144
  · rw [dif_pos hj, dif_pos (e2.trans_lt hj)]
    blk_ext [(idx1 t).2.1]
  · rw [dif_neg hj, dif_neg (fun h => hj (e2 ▸ h))]

/-- The rows of a point, entry by entry. -/
theorem rows_at (c : Dev nD) (t : Fin cfg0.N) (p : Fin 1088) (k : Fin 2048) (r : Fin 8704) (hr : r.val = t.val % 8 * 1088 + p.val) :
    (iblk m c 0 t : FVec Ideal S1088x2048 .bf16) (ix2 p k) = (m ((c.tc : Thread nD τ).loc main_arg0) : FVec Ideal S8704x2048 .bf16) (ix2 r k) := by
  blk_ext [iblk, V, (idx1 t).1]

/-- A sum of products against a packed weight row that is a row of the weights is that column of the projection. -/
theorem sum_row (c : Dev nD) (t : Fin cfg0.N) (p : Fin 1088) (r : Fin 8704) (hr : r.val = t.val % 8 * 1088 + p.val)
    (a : FVec Ideal S1088x2048 .bf16) (ha : a = iblk m c 0 t) (s : Fin 2048 → EReal) (e : Fin 1536) (t' : Fin cfg0.N) (hs : ∀ k, s k = (iblk m c 1 t' : FVec Ideal S1x1536x2048 .f32) (ix3 (0 : Fin 1) e k))
    (q : ℕ) (hq : q < 9024) (e' : srcCol (t'.val / 8) + e.val = q) :
    ∑ k : Fin 2048, a (ix2 p k) * s k
      = proj (m ((c.tc : Thread nD τ).loc main_arg0)) (m ((c.tc : Thread nD τ).loc main_arg1)) r q hq := by
  subst e' ha
  refine Finset.sum_congr rfl fun k _ => ?_
  rw [rows_at m c t p k r hr, hs k, wblock_at m c t' e k]

/-- Every output tile a point leaves is the packed projection under it. -/
theorem tile_at (c : Dev nD) (t : Fin cfg0.N) (y : S1088x1536.Idx) (z : S8704x9216.Idx)
    (h0 : (z 0 : ℕ) = t.val % 8 * 1088 + (y 0 : ℕ)) (h1 : (z 1 : ℕ) = t.val / 8 * 1536 + (y 1 : ℕ)) :
    (outsAt0 m c t.val t.isLt).1 y
      = packed (m ((c.tc : Thread nD τ).loc main_arg0)) (m ((c.tc : Thread nD τ).loc main_arg1)) (m ((c.tc : Thread nD τ).loc main_arg2)) z := by
  have hN := lt_of_lt_of_eq t.isLt (show cfg0.N = 48 from N_0)
  have hy : (y 1 : ℕ) < 1536 := (y 1).isLt
  rw [out_eq m c t, outTile_at, coord0 t, bias_at m c t (y 1)]
  have hs := fun k : Fin 2048 => scratch_at m c t (ix2 (y 1) k)
  have et : (⟨8 * (t.val / 8), Pipeline.run_start_lt t⟩ : Fin cfg0.N).val / 8 = t.val / 8 := by
    show 8 * (t.val / 8) / 8 = _
    omega
  have src : srcCol (t.val / 8) = if t.val / 8 < 4 then 2880 + 1536 * (t.val / 8) else if t.val / 8 = 4 then 0 else 1344 := rfl
  unfold packed
  by_cases g : t.val / 8 < 4
  · rw [if_pos g, dif_pos (by omega), dif_pos (by omega : (z 1 : ℕ) < 6144)]
    rw [if_pos g] at src
    congr 2
    · refine sum_row m c t (y 0) (z 0) h0 _ rfl _ (y 1) _ (fun k => (hs k).trans (if_neg (by omega))) _ _ ?_
      rw [et]; omega
    · exact congrArg _ (congrArg (ix2 (0 : Fin 2)) (Fin.ext (by show 1536 * (t.val / 8) + (y 1 : ℕ) = (z 1 : ℕ); omega)))
  · rw [if_neg g, dif_neg (by omega), dif_neg (by omega : ¬(z 1 : ℕ) < 6144), add_zero]
    rw [if_neg g] at src
    by_cases g4 : t.val / 8 = 4
    · rw [if_pos g4] at src
      have hp := fun k : Fin 2048 => (hs k).trans (if_pos g4)
      by_cases c1 : (y 1 : ℕ) < 1344
      · rw [dif_pos (by omega : (z 1 : ℕ) < 7488)]
        refine sum_row m c t (y 0) (z 0) h0 _ rfl _ (y 1) _ (fun k => (hp k).trans (if_pos c1)) _ _ ?_
        rw [et]; omega
      · rw [dif_neg (by omega : ¬(z 1 : ℕ) < 7488)]
        have hp1 := fun k : Fin 2048 => (hp k).trans (if_neg c1)
        by_cases c2 : (y 1 : ℕ) < 1408
        · rw [dif_pos (by omega : (z 1 : ℕ) < 7552)]
          exact Finset.sum_eq_zero fun k _ => by rw [(hp1 k).trans (if_pos c2)]; exact mul_zero _
        · rw [dif_neg (by omega : ¬(z 1 : ℕ) < 7552)]
          have hp2 := fun k : Fin 2048 => (hp1 k).trans (if_neg c2)
          by_cases c3 : (y 1 : ℕ) < 1440
          · rw [dif_pos (by omega : (z 1 : ℕ) < 7584)]
            refine sum_row m c t (y 0) (z 0) h0 _ rfl _ ⟨(y 1 : ℕ) - 96, by omega⟩ _ (fun k => (hp2 k).trans (if_pos c3)) _ _ ?_
            rw [et]; show srcCol (t.val / 8) + ((y 1 : ℕ) - 96) = _; omega
          · rw [dif_neg (by omega : ¬(z 1 : ℕ) < 7584)]
            have hp3 := fun k : Fin 2048 => (hp2 k).trans (if_neg c3)
            by_cases c4 : (y 1 : ℕ) < 1472
            · rw [dif_pos (by omega : (z 1 : ℕ) < 7616)]
              refine sum_row m c t (y 0) (z 0) h0 _ rfl _ ⟨(y 1 : ℕ) - 160, by omega⟩ _ (fun k => (hp3 k).trans (if_pos c4)) _ _ ?_
              rw [et]; show srcCol (t.val / 8) + ((y 1 : ℕ) - 160) = _; omega
            · rw [dif_neg (by omega : ¬(z 1 : ℕ) < 7616), dif_pos (by omega : (z 1 : ℕ) < 7680)]
              have hp4 := fun k : Fin 2048 => (hp3 k).trans (if_neg c4)
              exact Finset.sum_eq_zero fun k _ => by rw [hp4 k]; exact mul_zero _
    · rw [if_neg g4] at src
      rw [dif_neg (by omega : ¬(z 1 : ℕ) < 7488), dif_neg (by omega : ¬(z 1 : ℕ) < 7552), dif_neg (by omega : ¬(z 1 : ℕ) < 7584),
        dif_neg (by omega : ¬(z 1 : ℕ) < 7616), dif_neg (by omega : ¬(z 1 : ℕ) < 7680)]
      refine sum_row m c t (y 0) (z 0) h0 _ rfl _ (y 1) _ (fun k => (hs k).trans (if_neg g4)) _ _ ?_
      rw [et]; omega

/-- The array the call returns is the packed projection of its arguments. -/
theorem final (c : Dev nD) : (dats m 0 c).arrAt 3 cfg0.N
    = packed (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  refine tile_at m c t y _ ?_ ?_
  · blk_simp [(idx1 t).2.2]
  · blk_simp [(idx1 t).2.2]

end Cert.KernelIdeal.Inproj

end
-- ==== Proof.InprojPair.lean ====
module

public import proofs.«01_k».proof.Defs
public import proofs.«01_k».proof.Proof.InprojValue
public import Idealize.ShloMosaic.Adequacy
public import Idealize.ShloMosaic.Init
public import Idealize.ShloMosaic.Lib.Tactic.ValueTie

@[expose] public section

set_option maxRecDepth 16384

noncomputable section

open Idealize.ShloMosaic Idealize.ShloMosaic.TcCoe Idealize.SL.Sem

namespace Cert.Proof

/-- Two choices are equal when their conditions are equivalent and their branches are equal. -/
theorem dite_step {α : Sort*} {p q : Prop} [Decidable p] [Decidable q] {a : p → α} {b : ¬p → α} {a' : q → α} {b' : ¬q → α}
    (h : p ↔ q) (ha : ∀ hp hq, a hp = a' hq) (hb : ∀ hp hq, b hp = b' hq) : dite p a b = dite q a' b' := by
  by_cases hp : p
  · rw [dif_pos hp, dif_pos (h.mp hp)]; exact ha _ _
  · rw [dif_neg hp, dif_neg (fun k => hp (h.mpr k))]; exact hb _ _

/-- The input projection's two programs end with equal results: both with the packed projection of the arguments. -/
theorem inproj_pair : algebraic_KernelIdeal_ReferenceIdeal := by
  pair_intro
  · run_from Cert.KernelIdeal.Gen.run_main m g
  · run_from Cert.ReferenceIdeal.Value.run m' g'
    rw [(hagree c).2.2]
    refine Eq.trans ?_ (Cert.KernelIdeal.Inproj.final m c).symm
    funext y
    pointwise [Cert.KernelIdeal.Inproj.packed, Cert.KernelIdeal.Inproj.proj]
    refine dite_step Iff.rfl (fun _ _ => rfl) fun h0 _ => ?_
    refine dite_step (by omega) (fun _ _ => rfl) fun h1 _ => ?_
    refine dite_step (by omega) (fun _ _ => rfl) fun h2 _ => ?_
    refine dite_step (by omega) (fun _ _ => ?_) fun h3 _ => ?_
    · blk_point []
    refine dite_step (by omega) (fun _ _ => ?_) fun h4 _ => ?_
    · blk_point []
    refine dite_step (by omega) (fun _ _ => rfl) fun h5 _ => ?_
    blk_point []

end Cert.Proof

end
-- ==== Proof.FfnScratch.lean ====
module

public import proofs.«01_k».proof.Proof.Gen.Kernel2Ideal.Frame
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

variable (m : (ℓ : Loc nD τ sig) → Buf (Elt Ideal) ℓ)

/-- The mean square of a row, plus the small constant. -/
def meanSq (x : Fin 2048 → EReal) : EReal :=
  Ideal.div (∑ k : Fin 2048, x k * x k) (Ideal.ofBits .f32 0x45000000#32) + Ideal.ofBits .f32 0x358637BD#32

/-- One entry of a normalised and modulated row. -/
def modulated (x : Fin 2048 → EReal) (g sc sh : EReal) (k : Fin 2048) : EReal :=
  x k * Ideal.rsqrt (meanSq x) * g * (1 + sc) + sh

/-- The stored rows, entry by entry. -/
theorem pay1_at (x : FVec Ideal S1024x2048 .f32) (g sc sh : FVec Ideal S1x1x2048 .f32) (p : Fin 1024) (k : Fin 2048) :
    k0_pay1 (F := Ideal) x g sc sh (ix2 p k)
      = modulated (fun k => x (ix2 p k)) (g (ix3 (0 : Fin 1) (0 : Fin 1) k)) (sc (ix3 (0 : Fin 1) (0 : Fin 1) k)) (sh (ix3 (0 : Fin 1) (0 : Fin 1) k)) k := by
  pointwise [k0_pay1]
  rfl

/-- One hidden unit: the gate times its logistic function times the up-projection. -/
def hidden (h g u : Fin 2048 → EReal) : EReal :=
  (∑ k : Fin 2048, h k * g k) * Ideal.logistic (∑ k : Fin 2048, h k * g k) * ∑ k : Fin 2048, h k * u k

/-- What a point adds to its output block. -/
def part (h : FVec Ideal S1024x2048 .bf16) (wg wu : FVec Ideal S2048x512 .bf16) (wd : FVec Ideal S512x2048 .bf16)
    (y : S1024x2048.Idx) : EReal :=
  ∑ q : Fin 512, hidden (fun k => h (ix2 (y 0) k)) (fun k => wg (ix2 k q)) (fun k => wu (ix2 k q)) * wd (ix2 q (y 1))

theorem pay3_at (h : FVec Ideal S1024x2048 .bf16) (wg wu : FVec Ideal S2048x512 .bf16) (o : FVec Ideal S1024x2048 .f32)
    (wd : FVec Ideal S512x2048 .bf16) (y) :
    k0_pay3 (F := Ideal) h wg wu o wd y = o y + part h wg wu wd y := by
  obtain ⟨p, j, rfl⟩ : ∃ p j, y = ix2 p j := ⟨y 0, y 1, by funext a; fin_cases a <;> rfl⟩
  pointwise [k0_pay3]
  simp only [part, hidden, Ideal.logistic, zero_sub]
  rfl

theorem pay4_at (x o : FVec Ideal S1024x2048 .f32) (g : FVec Ideal S1x1x2048 .f32) (p : Fin 1024) (j : Fin 2048) :
    k0_pay4 (F := Ideal) x g o (ix2 p j) = x (ix2 p j) + g (ix3 (0 : Fin 1) (0 : Fin 1) j) * o (ix2 p j) := by
  pointwise [k0_pay4]

theorem pay2_at (y) : k0_pay2 (F := Ideal) y = 0 := by
  pointwise [k0_pay2]

theorem scrA (c : Dev nD) (t : Fin cfg0.N) (h0 : t.val % 11 = 0) (h1 : ¬t.val % 11 = 10) (y) :
    (outsAt0 m c t.val t.isLt).2 y = k0_pay1 (F := Ideal) (iblk m c 0 t) (iblk m c 1 t) (iblk m c 3 t) (iblk m c 2 t) y := by
  rw [outsAt0_A m c t h0 h1]
  frame_out

theorem scrB (c : Dev nD) (t : Fin cfg0.N) (h0 : ¬t.val % 11 = 0) :
    (outsAt0 m c t.val t.isLt).2 = (outsAt0 m c (t.val - 1) (Nat.lt_of_le_of_lt (Nat.sub_le _ _) t.isLt)).2 := by
  by_cases h1 : t.val % 11 = 10
  · rw [outsAt0_C m c t h0 h1]; rfl
  · rw [outsAt0_B m c t h0 h1]; rfl

theorem outA (c : Dev nD) (t : Fin cfg0.N) (h0 : t.val % 11 = 0) (h1 : ¬t.val % 11 = 10) (y) :
    (outsAt0 m c t.val t.isLt).1 y = k0_pay3 (F := Ideal) (outsAt0 m c t.val t.isLt).2 (iblk m c 5 t) (iblk m c 6 t) (k0_pay2 (F := Ideal)) (iblk m c 7 t) y := by
  rw [outsAt0_A m c t h0 h1]
  frame_out

theorem outB (c : Dev nD) (t : Fin cfg0.N) (h0 : ¬t.val % 11 = 0) (h1 : ¬t.val % 11 = 10) (y) :
    (outsAt0 m c t.val t.isLt).1 y = k0_pay3 (F := Ideal) (outsAt0 m c t.val t.isLt).2 (iblk m c 5 t) (iblk m c 6 t)
      (outsAt0 m c (t.val - 1) (Nat.lt_of_le_of_lt (Nat.sub_le _ _) t.isLt)).1 (iblk m c 7 t) y := by
  rw [outsAt0_B m c t h0 h1]
  frame_out
  simp only [read_unread_whole]
  rfl

theorem outC (c : Dev nD) (t : Fin cfg0.N) (h0 : ¬t.val % 11 = 0) (h1 : t.val % 11 = 10) (y) :
    (outsAt0 m c t.val t.isLt).1 y = k0_pay4 (F := Ideal) (iblk m c 0 t) (iblk m c 4 t) (k0_pay3 (F := Ideal) (outsAt0 m c t.val t.isLt).2 (iblk m c 5 t) (iblk m c 6 t)
      (outsAt0 m c (t.val - 1) (Nat.lt_of_le_of_lt (Nat.sub_le _ _) t.isLt)).1 (iblk m c 7 t)) y := by
  rw [outsAt0_C m c t h0 h1]
  frame_out
  simp only [read_unread_whole]
  rfl

/-- The rows that every point of a row tile multiplies. -/
theorem scratch_at (c : Dev nD) (t : Fin cfg0.N) (y) : (outsAt0 m c t.val t.isLt).2 y
    = k0_pay1 (F := Ideal) (iblk m c 0 ⟨11 * (t.val / 11), Pipeline.run_start_lt t⟩) (iblk m c 1 ⟨11 * (t.val / 11), Pipeline.run_start_lt t⟩)
        (iblk m c 3 ⟨11 * (t.val / 11), Pipeline.run_start_lt t⟩) (iblk m c 2 ⟨11 * (t.val / 11), Pipeline.run_start_lt t⟩) y :=
  Pipeline.eq_of_write_hold_apply (fun n h => (outsAt0 m c n h).2) 11
    (fun t y => k0_pay1 (F := Ideal) (iblk m c 0 t) (iblk m c 1 t) (iblk m c 3 t) (iblk m c 2 t) y)
    (fun t h y => scrA m c t h (by omega) y) (fun t h y => congrFun (scrB m c t h) y) t y

/-- The sum that a point has made, before the last point of a row tile finishes it. -/
def runSum (c : Dev nD) (n : ℕ) (h : n < cfg0.N) : FVec Ideal S1024x2048 .f32 :=
  if n % 11 = 10 then k0_pay3 (F := Ideal) (outsAt0 m c n h).2 (iblk m c 5 ⟨n, h⟩) (iblk m c 6 ⟨n, h⟩)
      (outsAt0 m c (n - 1) (Nat.lt_of_le_of_lt (Nat.sub_le _ _) h)).1 (iblk m c 7 ⟨n, h⟩)
  else (outsAt0 m c n h).1

theorem runSum_last (c : Dev nD) (t : Fin cfg0.N) (ht : t.val % 11 = 10) (y) : runSum m c t.val t.isLt y
    = ∑ s : Fin 11, part (outsAt0 m c (11 * (t.val / 11) + s.val) (Pipeline.run_point_lt_of_flush t ht s)).2
        (iblk m c 5 ⟨11 * (t.val / 11) + s.val, Pipeline.run_point_lt_of_flush t ht s⟩)
        (iblk m c 6 ⟨11 * (t.val / 11) + s.val, Pipeline.run_point_lt_of_flush t ht s⟩)
        (iblk m c 7 ⟨11 * (t.val / 11) + s.val, Pipeline.run_point_lt_of_flush t ht s⟩) y := by
  rw [Pipeline.eq_sum_fin_of_reset_step_apply_of_flush (fun n h => runSum m c n h) 11 (fun _ => (0 : EReal))
    (fun t y => part (outsAt0 m c t.val t.isLt).2 (iblk m c 5 t) (iblk m c 6 t) (iblk m c 7 t) y)
    (fun t h y => by
      show runSum m c t.val t.isLt y = _
      unfold runSum
      rw [if_neg (by omega), outA m c t h (by omega), pay3_at, pay2_at])
    (fun t h y => by
      show runSum m c t.val t.isLt y = runSum m c (t.val - 1) _ y + _
      unfold runSum
      rw [if_neg (by omega : ¬(t.val - 1) % 11 = 10)]
      by_cases h1 : t.val % 11 = 10
      · rw [if_pos h1, pay3_at]
      · rw [if_neg h1, outB m c t h h1, pay3_at]) t ht y, zero_add]

/-- The last point of a row tile leaves the rows plus the gated sum. -/
theorem out_last (c : Dev nD) (t : Fin cfg0.N) (ht : t.val % 11 = 10) (p : Fin 1024) (j : Fin 2048)
    (x : FVec Ideal S1024x2048 .f32) (g : FVec Ideal S1x1x2048 .f32) (hx : x = iblk m c 0 t) (hg : g = iblk m c 4 t) :
    (outsAt0 m c t.val t.isLt).1 (ix2 p j)
      = x (ix2 p j) + g (ix3 (0 : Fin 1) (0 : Fin 1) j) * runSum m c t.val t.isLt (ix2 p j) := by
  subst hx hg
  rw [outC m c t (by omega) ht, pay4_at]
  unfold runSum
  rw [if_pos ht]

end Cert.Kernel2Ideal.Ffn

end
-- ==== Proof.FfnValue.lean ====
module

public import proofs.«01_k».proof.Proof.FfnScratch

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- Part `w` of the second layer's modulation of batch row `b`, entry `k`. -/
def modAt (mod : FVec Ideal S2x8x12288 .f32) (b : Fin 2) (w : Fin 6) (k : Fin 2048) : EReal :=
  mod (ix3 (1 : Fin 2) ⟨b.val, by omega⟩ ⟨2048 * w.val + k.val, by omega⟩)

/-- Row `n` of batch `b`, normalised and modulated. -/
def ffRow (x : FVec Ideal S2x4096x2048 .f32) (gain : FVec Ideal S2x2048 .f32) (mod : FVec Ideal S2x8x12288 .f32)
    (b : Fin 2) (n : Fin 4096) (k : Fin 2048) : EReal :=
  modulated (fun k => x (ix3 b n k)) (gain (ix2 (1 : Fin 2) k)) (modAt mod b 4 k) (modAt mod b 3 k) k

/-- The feed-forward part of the last layer at row `n` of batch `b`, column `j`. -/
def ffAt (x : FVec Ideal S2x4096x2048 .f32) (gain : FVec Ideal S2x2048 .f32) (mod : FVec Ideal S2x8x12288 .f32)
    (wg wu : FVec Ideal S2x2048x5632 .f32) (wd : FVec Ideal S2x5632x2048 .f32) (b : Fin 2) (n : Fin 4096) (j : Fin 2048) : EReal :=
  x (ix3 b n j) + modAt mod b 5 j * ∑ q : Fin 5632, hidden (ffRow x gain mod b n) (fun k => wg (ix3 (1 : Fin 2) k q))
    (fun k => wu (ix3 (1 : Fin 2) k q)) * wd (ix3 (1 : Fin 2) q j)

/-- The same as an array of 8192 rows. -/
def ff (x : FVec Ideal S2x4096x2048 .f32) (gain : FVec Ideal S2x2048 .f32) (mod : FVec Ideal S2x8x12288 .f32)
    (wg wu : FVec Ideal S2x2048x5632 .f32) (wd : FVec Ideal S2x5632x2048 .f32) : FVec Ideal S8192x2048 .f32 := fun y =>
  ffAt x gain mod wg wu wd ⟨(y 0 : ℕ) / 4096, by have h := (y 0).isLt; dsimp at h; omega⟩
    ⟨(y 0 : ℕ) % 4096, Nat.mod_lt _ (by decide)⟩ (y 1)

variable (m : (ℓ : Loc nD τ sig) → Buf (Elt Ideal) ℓ)

theorem idxA : ∀ t : Fin cfg0.N, win0_0.index t = ![t.val / 11, 0] ∧ win0_1.index t = ![1, 0, 0] ∧ win0_2.index t = ![48 + t.val / 44 * 6 + 3, 0, 0]
    ∧ win0_3.index t = ![48 + t.val / 44 * 6 + 4, 0, 0] ∧ win0_4.index t = ![48 + t.val / 44 * 6 + 5, 0, 0] :=
  (by decide +kernel : ∀ t : Fin grid0.N, _)

theorem idxB : ∀ t : Fin cfg0.N, win0_5.index t = ![0, t.val % 11] ∧ win0_6.index t = ![0, t.val % 11] ∧ win0_7.index t = ![t.val % 11, 0]
    ∧ win0_8.index t = ![t.val / 11, 0] :=
  (by decide +kernel : ∀ t : Fin grid0.N, _)

theorem rows_at (c : Dev nD) (t : Fin cfg0.N) (p : Fin 1024) (k : Fin 2048) (b : Fin 2) (n : Fin 4096)
    (h : 4096 * b.val + n.val = t.val / 11 * 1024 + p.val) :
    (iblk m c 0 t : FVec Ideal S1024x2048 .f32) (ix2 p k) = (m ((c.tc : Thread nD τ).loc main_arg0) : FVec Ideal S2x4096x2048 .f32) (ix3 b n k) := by
  blk_simp [iblk]
  entry_read
  pointwise
  blk_ext [(idxA t).1]

theorem gain_at (c : Dev nD) (t : Fin cfg0.N) (k : Fin 2048) :
    (iblk m c 1 t : FVec Ideal S1x1x2048 .f32) (ix3 (0 : Fin 1) (0 : Fin 1) k) = (m ((c.tc : Thread nD τ).loc main_arg1) : FVec Ideal S2x2048 .f32) (ix2 (1 : Fin 2) k) := by
  blk_simp [iblk]
  entry_read
  pointwise
  blk_ext [(idxA t).2.1]

theorem shift_at (c : Dev nD) (t : Fin cfg0.N) (k : Fin 2048) (b : Fin 2) (h : b.val = t.val / 44) :
    (iblk m c 2 t : FVec Ideal S1x1x2048 .f32) (ix3 (0 : Fin 1) (0 : Fin 1) k) = modAt (m ((c.tc : Thread nD τ).loc main_arg2)) b 3 k := by
  unfold modAt
  blk_simp [iblk]
  entry_read
  pointwise
  blk_ext [(idxA t).2.2.1]

theorem scale_at (c : Dev nD) (t : Fin cfg0.N) (k : Fin 2048) (b : Fin 2) (h : b.val = t.val / 44) :
    (iblk m c 3 t : FVec Ideal S1x1x2048 .f32) (ix3 (0 : Fin 1) (0 : Fin 1) k) = modAt (m ((c.tc : Thread nD τ).loc main_arg2)) b 4 k := by
  unfold modAt
  blk_simp [iblk]
  entry_read
  pointwise
  blk_ext [(idxA t).2.2.2.1]

theorem gate_at (c : Dev nD) (t : Fin cfg0.N) (k : Fin 2048) (b : Fin 2) (h : b.val = t.val / 44) :
    (iblk m c 4 t : FVec Ideal S1x1x2048 .f32) (ix3 (0 : Fin 1) (0 : Fin 1) k) = modAt (m ((c.tc : Thread nD τ).loc main_arg2)) b 5 k := by
  unfold modAt
  blk_simp [iblk]
  entry_read
  pointwise
  blk_ext [(idxA t).2.2.2.2]

theorem wg_at (c : Dev nD) (t : Fin cfg0.N) (k : Fin 2048) (q : Fin 512) (l : Fin 5632) (h : l.val = t.val % 11 * 512 + q.val) :
    (iblk m c 5 t : FVec Ideal S2048x512 .bf16) (ix2 k q) = (m ((c.tc : Thread nD τ).loc main_arg3) : FVec Ideal S2x2048x5632 .f32) (ix3 (1 : Fin 2) k l) := by
  blk_simp [iblk]
  entry_read
  pointwise
  blk_ext [(idxB t).1]

theorem wu_at (c : Dev nD) (t : Fin cfg0.N) (k : Fin 2048) (q : Fin 512) (l : Fin 5632) (h : l.val = t.val % 11 * 512 + q.val) :
    (iblk m c 6 t : FVec Ideal S2048x512 .bf16) (ix2 k q) = (m ((c.tc : Thread nD τ).loc main_arg4) : FVec Ideal S2x2048x5632 .f32) (ix3 (1 : Fin 2) k l) := by
  blk_simp [iblk]
  entry_read
  pointwise
  blk_ext [(idxB t).2.1]

theorem wd_at (c : Dev nD) (t : Fin cfg0.N) (q : Fin 512) (j : Fin 2048) (l : Fin 5632) (h : l.val = t.val % 11 * 512 + q.val) :
    (iblk m c 7 t : FVec Ideal S512x2048 .bf16) (ix2 q j) = (m ((c.tc : Thread nD τ).loc main_arg5) : FVec Ideal S2x5632x2048 .f32) (ix3 (1 : Fin 2) l j) := by
  blk_simp [iblk]
  entry_read
  pointwise
  blk_ext [(idxB t).2.2.1]

/-- The stored rows are the normalised and modulated rows. -/
theorem scratch_row (c : Dev nD) (t : Fin cfg0.N) (p : Fin 1024) (k : Fin 2048) (b : Fin 2) (n : Fin 4096)
    (h : 4096 * b.val + n.val = t.val / 11 * 1024 + p.val) : (outsAt0 m c t.val t.isLt).2 (ix2 p k)
      = ffRow (m ((c.tc : Thread nD τ).loc main_arg0)) (m ((c.tc : Thread nD τ).loc main_arg1)) (m ((c.tc : Thread nD τ).loc main_arg2)) b n k := by
  have hN := lt_of_lt_of_eq t.isLt (show cfg0.N = 88 from N_0)
  have e1 : (⟨11 * (t.val / 11), Pipeline.run_start_lt t⟩ : Fin cfg0.N).val = 11 * (t.val / 11) := rfl
  rw [scratch_at m c t, pay1_at, gain_at, scale_at m c _ k b (by rw [e1]; omega), shift_at m c _ k b (by rw [e1]; omega)]
  unfold ffRow
  congr 1
  funext k'
  exact rows_at m c _ p k' b n (by rw [e1]; omega)

/-- The last point of a row tile leaves the feed-forward part of its rows. -/
theorem tile_at (c : Dev nD) (t : Fin cfg0.N) (ht : t.val % 11 = 10) (y : S1024x2048.Idx) (z : S8192x2048.Idx)
    (h0 : (z 0 : ℕ) = t.val / 11 * 1024 + (y 0 : ℕ)) (h1 : (z 1 : ℕ) = (y 1 : ℕ)) :
    (outsAt0 m c t.val t.isLt).1 y
      = ff (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) z := by
  have hN := lt_of_lt_of_eq t.isLt (show cfg0.N = 88 from N_0)
  have hz : (z 0 : ℕ) < 8192 := (z 0).isLt
  obtain ⟨p, j, rfl⟩ : ∃ p j, y = ix2 p j := ⟨y 0, y 1, by funext a; fin_cases a <;> rfl⟩
  have h0' : (z 0 : ℕ) = t.val / 11 * 1024 + p.val := h0
  have hp := p.isLt
  have ej : (z 1 : Fin 2048) = j := Fin.ext h1
  unfold ff
  rw [ej]
  generalize hb : (⟨(z 0 : ℕ) / 4096, by omega⟩ : Fin 2) = b
  generalize hn : (⟨(z 0 : ℕ) % 4096, Nat.mod_lt _ (by decide)⟩ : Fin 4096) = n
  have vb : b.val = (z 0 : ℕ) / 4096 := by rw [← hb]
  have vn : n.val = (z 0 : ℕ) % 4096 := by rw [← hn]
  have hr : 4096 * b.val + n.val = t.val / 11 * 1024 + p.val := by omega
  rw [out_last m c t ht p j _ _ rfl rfl, rows_at m c t p j b n hr, gate_at m c t j b (by omega), runSum_last m c t ht]
  unfold ffAt
  congr 2
  refine Fin.sum_mul_add_congr fun s q hl => ?_
  have es : (⟨11 * (t.val / 11) + s.val, Pipeline.run_point_lt_of_flush t ht s⟩ : Fin cfg0.N).val = 11 * (t.val / 11) + s.val := rfl
  have hs := s.isLt
  have eq : (⟨s.val * 512 + q.val, hl⟩ : Fin 5632).val = s.val * 512 + q.val := rfl
  have em : (11 * (t.val / 11) + s.val) % 11 = s.val := by omega
  refine congr (congrArg HMul.hMul ?_) (wd_at m c _ q j _ (by rw [es, em]))
  refine congr (congr (congrArg hidden (funext fun k => ?_)) (funext fun k => ?_)) (funext fun k => ?_)
  · exact scratch_row m c ⟨11 * (t.val / 11) + s.val, Pipeline.run_point_lt_of_flush t ht s⟩ p k b n (by rw [es]; omega)
  · exact wg_at m c _ k q _ (by rw [es, em])
  · exact wu_at m c _ k q _ (by rw [es, em])

/-- The array the call returns is the feed-forward part of its arguments. -/
theorem final (c : Dev nD) : (dats m 0 c).arrAt 8 cfg0.N
    = ff (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (dats m 0 c).arrAt_eq_of_covers 8 _ (by decide +kernel) fun t hf y => ?_
  have ht := (flush0_8 t).mp hf
  have hN := lt_of_lt_of_eq t.isLt (show cfg0.N = 88 from N_0)
  blk_simp
  rw [after0_8]
  refine tile_at m c t ht y _ ?_ ?_
  · blk_simp [(idxB t).2.2.2]
  · blk_simp [(idxB t).2.2.2]

end Cert.Kernel2Ideal.Ffn

end
-- ==== Proof.FfnRef.lean ====
module

public import proofs.«01_k».proof.Proof.FfnValue
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Kernel2Ideal.Ffn

/-- The reference's normalised and modulated rows. -/
def rowsR (x : FVec Ideal S2x4096x2048 .f32) (gain : FVec Ideal S2x2048 .f32) (mod : FVec Ideal S2x8x12288 .f32) : FVec Ideal S2x4096x2048 .f32 :=
  addf (mulf (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![1, 0] gain slices_S2x2048_S1x2048_1_0) shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (shapeCast _ (extractStridedSlice S2x1x1x2048 ![0, 4, 0, 0] (shapeCast _ (shapeCast _ (extractStridedSlice S1x2x12288 ![1, 0, 0] mod slices_S2x8x12288_S1x2x12288_1_0_0) shapeCasts_S1x2x12288_S2x12288) shapeCasts_S2x12288_S2x6x1x2048) slices_S2x6x1x2048_S2x1x1x2048_0_4_0_0) shapeCasts_S2x1x1x2048_S2x1x2048)))) (broadcastInDim S2x4096x2048 ![0, 1, 2] bcast_S2x1x2048_S2x4096x2048_0_1_2 (shapeCast _ (extractStridedSlice S2x1x1x2048 ![0, 3, 0, 0] (shapeCast _ (shapeCast _ (extractStridedSlice S1x2x12288 ![1, 0, 0] mod slices_S2x8x12288_S1x2x12288_1_0_0) shapeCasts_S1x2x12288_S2x12288) shapeCasts_S2x12288_S2x6x1x2048) slices_S2x6x1x2048_S2x1x1x2048_0_3_0_0) shapeCasts_S2x1x1x2048_S2x1x2048))

/-- The reference's gate products. -/
def gateR (x : FVec Ideal S2x4096x2048 .f32) (gain : FVec Ideal S2x2048 .f32) (mod : FVec Ideal S2x8x12288 .f32) (wg : FVec Ideal S2x2048x5632 .f32) : FVec Ideal S2x4096x5632 .f32 :=
  Host.dotGeneral dot_S2x4096x2048_S2048x5632_S2x4096x5632_2_0_01_1_n_n none (rowsR x gain mod) (shapeCast _ (extractStridedSlice S1x2048x5632 ![1, 0, 0] wg slices_S2x2048x5632_S1x2048x5632_1_0_0) shapeCasts_S1x2048x5632_S2048x5632)

/-- The reference's up-projection. -/
def upR (x : FVec Ideal S2x4096x2048 .f32) (gain : FVec Ideal S2x2048 .f32) (mod : FVec Ideal S2x8x12288 .f32) (wu : FVec Ideal S2x2048x5632 .f32) : FVec Ideal S2x4096x5632 .f32 :=
  Host.dotGeneral dot_S2x4096x2048_S2048x5632_S2x4096x5632_2_0_01_1_n_n none (rowsR x gain mod) (shapeCast _ (extractStridedSlice S1x2048x5632 ![1, 0, 0] wu slices_S2x2048x5632_S1x2048x5632_1_0_0) shapeCasts_S1x2048x5632_S2048x5632)

/-- The reference's result. -/
def outR (x : FVec Ideal S2x4096x2048 .f32) (gain : FVec Ideal S2x2048 .f32) (mod : FVec Ideal S2x8x12288 .f32) (wg wu : FVec Ideal S2x2048x5632 .f32) (wd : FVec Ideal S2x5632x2048 .f32) : FVec Ideal S8192x2048 .f32 :=
  shapeCast _ (addf x (mulf (broadcastInDim S2x4096x2048 ![0, 1, 2] bcast_S2x1x2048_S2x4096x2048_0_1_2 (shapeCast _ (extractStridedSlice S2x1x1x2048 ![0, 5, 0, 0] (shapeCast _ (shapeCast _ (extractStridedSlice S1x2x12288 ![1, 0, 0] mod slices_S2x8x12288_S1x2x12288_1_0_0) shapeCasts_S1x2x12288_S2x12288) shapeCasts_S2x12288_S2x6x1x2048) slices_S2x6x1x2048_S2x1x1x2048_0_5_0_0) shapeCasts_S2x1x1x2048_S2x1x2048)) (Host.dotGeneral dot_S2x4096x5632_S5632x2048_S2x4096x2048_2_0_01_1_n_n none (mulf (mulf (gateR x gain mod wg) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (gateR x gain mod wg)))))) (upR x gain mod wu)) (shapeCast _ (extractStridedSlice S1x5632x2048 ![1, 0, 0] wd slices_S2x5632x2048_S1x5632x2048_1_0_0) shapeCasts_S1x5632x2048_S5632x2048)))) shapeCasts_S2x4096x2048_S8192x2048

theorem rowsR_at (x : FVec Ideal S2x4096x2048 .f32) (gain : FVec Ideal S2x2048 .f32) (mod : FVec Ideal S2x8x12288 .f32) (b : Fin 2) (n : Fin 4096) (k : Fin 2048) :
    rowsR x gain mod (ix3 b n k) = ffRow x gain mod b n k := by
  unfold ffRow modulated meanSq modAt
  pointwise [rowsR]

theorem gateR_at (x : FVec Ideal S2x4096x2048 .f32) (gain : FVec Ideal S2x2048 .f32) (mod : FVec Ideal S2x8x12288 .f32) (wg : FVec Ideal S2x2048x5632 .f32) (b : Fin 2) (n : Fin 4096) (q : Fin 5632) :
    gateR x gain mod wg (ix3 b n q) = ∑ k : Fin 2048, ffRow x gain mod b n k * wg (ix3 (1 : Fin 2) k q) := by
  pointwise [gateR]
  simp only [rowsR_at]

theorem upR_at (x : FVec Ideal S2x4096x2048 .f32) (gain : FVec Ideal S2x2048 .f32) (mod : FVec Ideal S2x8x12288 .f32) (wu : FVec Ideal S2x2048x5632 .f32) (b : Fin 2) (n : Fin 4096) (q : Fin 5632) :
    upR x gain mod wu (ix3 b n q) = ∑ k : Fin 2048, ffRow x gain mod b n k * wu (ix3 (1 : Fin 2) k q) := by
  pointwise [upR]
  simp only [rowsR_at]

theorem outR_eq (x : FVec Ideal S2x4096x2048 .f32) (gain : FVec Ideal S2x2048 .f32) (mod : FVec Ideal S2x8x12288 .f32) (wg wu : FVec Ideal S2x2048x5632 .f32) (wd : FVec Ideal S2x5632x2048 .f32) :
    outR x gain mod wg wu wd = ff x gain mod wg wu wd := by
  funext y
  unfold ff ffAt Cert.Kernel2Ideal.Ffn.hidden modAt
  pointwise [outR]
  simp only [gateR_at, upR_at, Ideal.logistic]

/-- The array the reference's program writes is `outR` of its arguments. -/
theorem res_eq (m : (ℓ : Loc nD τ sig) → Buf (Elt Ideal) ℓ) (c : Dev nD) :
    Value.res_main_v44 m c = outR (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-- `ff` respects equality of its arguments. -/
theorem ff_congr {x x' gain gain' mod mod' wg wg' wu wu' wd wd'} (h0 : x = x') (h1 : gain = gain') (h2 : mod = mod')
    (h3 : wg = wg') (h4 : wu = wu') (h5 : wd = wd') : ff x gain mod wg wu wd = ff x' gain' mod' wg' wu' wd' := by
  subst h0 h1 h2 h3 h4 h5; rfl

end Cert.Reference2Ideal.Ffn

end
-- ==== Proof.FfnPair.lean ====
module

public import proofs.«01_k».proof.Defs
public import proofs.«01_k».proof.Proof.FfnRef
public import proofs.«01_k».proof.Proof.Gen.Reference2Ideal.Run
public import Idealize.ShloMosaic.Adequacy
public import Idealize.ShloMosaic.Init
public import Idealize.ShloMosaic.Lib.Tactic.ValueTie

@[expose] public section

set_option maxRecDepth 16384

noncomputable section

open Idealize.ShloMosaic Idealize.ShloMosaic.TcCoe Idealize.SL.Sem

namespace Cert.Proof

/-- The feed-forward part's two programs end with equal results. -/
theorem ffn_pair : algebraic_Kernel2Ideal_Reference2Ideal := by
  pair_intro
  · run_from Cert.Kernel2Ideal.Gen.run_main m g
  · run_from Cert.Reference2Ideal.Value.run m' g'
    obtain ⟨a0, a1, a2, a3, a4, a5⟩ := hagree c
    exact (Cert.Reference2Ideal.Ffn.res_eq m' c).trans ((Cert.Reference2Ideal.Ffn.outR_eq _ _ _ _ _ _).trans
      ((Cert.Reference2Ideal.Ffn.ff_congr a0 a1 a2 a3 a4 a5).trans (Cert.Kernel2Ideal.Ffn.final m c).symm))

end Cert.Proof

end
-- ==== Proof.FirstScratch.lean ====
module

public import proofs.«01_k».proof.Proof.Gen.Kernel3Ideal.Frame
public import proofs.«01_k».proof.Proof.FfnScratch
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen
open Cert.Kernel2Ideal.Ffn (meanSq modulated hidden)

variable (m : (ℓ : Loc nD τ sig) → Buf (Elt Ideal) ℓ)

/-- The stored rows, entry by entry. -/
theorem pay1_at (x : FVec Ideal S512x2048 .f32) (g sc sh : FVec Ideal S1x1x2048 .f32) (p : Fin 512) (k : Fin 2048) :
    k0_pay1 (F := Ideal) x g sc sh (ix2 p k)
      = modulated (fun k => x (ix2 p k)) (g (ix3 (0 : Fin 1) (0 : Fin 1) k)) (sc (ix3 (0 : Fin 1) (0 : Fin 1) k)) (sh (ix3 (0 : Fin 1) (0 : Fin 1) k)) k := by
  pointwise [k0_pay1]
  rfl

/-- What a point adds to its output block. -/
def part (h : FVec Ideal S512x2048 .bf16) (wg wu : FVec Ideal S2048x512 .bf16) (wd : FVec Ideal S512x2048 .bf16)
    (y : S512x2048.Idx) : EReal :=
  ∑ q : Fin 512, Cert.Kernel2Ideal.Ffn.hidden (fun k => h (ix2 (y 0) k)) (fun k => wg (ix2 k q)) (fun k => wu (ix2 k q)) * wd (ix2 q (y 1))

theorem pay3_at (h : FVec Ideal S512x2048 .bf16) (wg wu : FVec Ideal S2048x512 .bf16) (o : FVec Ideal S512x2048 .f32)
    (wd : FVec Ideal S512x2048 .bf16) (y) :
    k0_pay3 (F := Ideal) h wg wu o wd y = o y + part h wg wu wd y := by
  obtain ⟨p, j, rfl⟩ : ∃ p j, y = ix2 p j := ⟨y 0, y 1, by funext a; fin_cases a <;> rfl⟩
  pointwise [k0_pay3]
  simp only [part, Cert.Kernel2Ideal.Ffn.hidden, Ideal.logistic, zero_sub]
  rfl

theorem pay4_at (x o : FVec Ideal S512x2048 .f32) (g : FVec Ideal S1x1x2048 .f32) (p : Fin 512) (j : Fin 2048) :
    k0_pay4 (F := Ideal) x g o (ix2 p j) = x (ix2 p j) + g (ix3 (0 : Fin 1) (0 : Fin 1) j) * o (ix2 p j) := by
  pointwise [k0_pay4]

theorem pay5_at (x o : FVec Ideal S512x2048 .f32) (g gn sc sh : FVec Ideal S1x1x2048 .f32) (p : Fin 512) (j : Fin 2048) :
    k0_pay5 (F := Ideal) x g o gn sc sh (ix2 p j)
      = modulated (fun k => k0_pay4 (F := Ideal) x g o (ix2 p k)) (gn (ix3 (0 : Fin 1) (0 : Fin 1) j)) (sc (ix3 (0 : Fin 1) (0 : Fin 1) j)) (sh (ix3 (0 : Fin 1) (0 : Fin 1) j)) j := by
  pointwise [k0_pay5]
  rfl

theorem pay2_at (y) : k0_pay2 (F := Ideal) y = 0 := by
  pointwise [k0_pay2]

theorem scrA (c : Dev nD) (t : Fin cfg0.N) (h0 : t.val % 11 = 0) (h1 : ¬t.val % 11 = 10) (y) :
    (outsAt0 m c t.val t.isLt).2.2 y = k0_pay1 (F := Ideal) (iblk m c 0 t) (iblk m c 1 t) (iblk m c 3 t) (iblk m c 2 t) y := by
  rw [outsAt0_A m c t h0 h1]
  frame_out

theorem scrB (c : Dev nD) (t : Fin cfg0.N) (h0 : ¬t.val % 11 = 0) :
    (outsAt0 m c t.val t.isLt).2.2 = (outsAt0 m c (t.val - 1) (Nat.lt_of_le_of_lt (Nat.sub_le _ _) t.isLt)).2.2 := by
  by_cases h1 : t.val % 11 = 10
  · rw [outsAt0_C m c t h0 h1]; rfl
  · rw [outsAt0_B m c t h0 h1]; rfl

theorem outA (c : Dev nD) (t : Fin cfg0.N) (h0 : t.val % 11 = 0) (h1 : ¬t.val % 11 = 10) (y) :
    (outsAt0 m c t.val t.isLt).1 y = k0_pay3 (F := Ideal) (outsAt0 m c t.val t.isLt).2.2 (iblk m c 5 t) (iblk m c 6 t) (k0_pay2 (F := Ideal)) (iblk m c 7 t) y := by
  rw [outsAt0_A m c t h0 h1]
  frame_out

theorem outB (c : Dev nD) (t : Fin cfg0.N) (h0 : ¬t.val % 11 = 0) (h1 : ¬t.val % 11 = 10) (y) :
    (outsAt0 m c t.val t.isLt).1 y = k0_pay3 (F := Ideal) (outsAt0 m c t.val t.isLt).2.2 (iblk m c 5 t) (iblk m c 6 t)
      (outsAt0 m c (t.val - 1) (Nat.lt_of_le_of_lt (Nat.sub_le _ _) t.isLt)).1 (iblk m c 7 t) y := by
  rw [outsAt0_B m c t h0 h1]
  frame_out
  simp only [read_unread_whole]
  rfl

theorem outC (c : Dev nD) (t : Fin cfg0.N) (h0 : ¬t.val % 11 = 0) (h1 : t.val % 11 = 10) (y) :
    (outsAt0 m c t.val t.isLt).1 y = k0_pay4 (F := Ideal) (iblk m c 0 t) (iblk m c 4 t) (k0_pay3 (F := Ideal) (outsAt0 m c t.val t.isLt).2.2 (iblk m c 5 t) (iblk m c 6 t)
      (outsAt0 m c (t.val - 1) (Nat.lt_of_le_of_lt (Nat.sub_le _ _) t.isLt)).1 (iblk m c 7 t)) y := by
  rw [outsAt0_C m c t h0 h1]
  frame_out
  simp only [read_unread_whole]
  rfl

theorem nextC (c : Dev nD) (t : Fin cfg0.N) (h0 : ¬t.val % 11 = 0) (h1 : t.val % 11 = 10) (y) :
    (outsAt0 m c t.val t.isLt).2.1 y = k0_pay5 (F := Ideal) (iblk m c 0 t) (iblk m c 4 t) (k0_pay3 (F := Ideal) (outsAt0 m c t.val t.isLt).2.2 (iblk m c 5 t) (iblk m c 6 t)
      (outsAt0 m c (t.val - 1) (Nat.lt_of_le_of_lt (Nat.sub_le _ _) t.isLt)).1 (iblk m c 7 t)) (iblk m c 8 t) (iblk m c 10 t) (iblk m c 9 t) y := by
  rw [outsAt0_C m c t h0 h1]
  frame_out
  simp only [read_unread_whole]
  rfl

/-- The rows that every point of a row tile multiplies. -/
theorem scratch_at (c : Dev nD) (t : Fin cfg0.N) (y) : (outsAt0 m c t.val t.isLt).2.2 y
    = k0_pay1 (F := Ideal) (iblk m c 0 ⟨11 * (t.val / 11), Pipeline.run_start_lt t⟩) (iblk m c 1 ⟨11 * (t.val / 11), Pipeline.run_start_lt t⟩)
        (iblk m c 3 ⟨11 * (t.val / 11), Pipeline.run_start_lt t⟩) (iblk m c 2 ⟨11 * (t.val / 11), Pipeline.run_start_lt t⟩) y :=
  Pipeline.eq_of_write_hold_apply (fun n h => (outsAt0 m c n h).2.2) 11
    (fun t y => k0_pay1 (F := Ideal) (iblk m c 0 t) (iblk m c 1 t) (iblk m c 3 t) (iblk m c 2 t) y)
    (fun t h y => scrA m c t h (by omega) y) (fun t h y => congrFun (scrB m c t h) y) t y

/-- The sum that a point has made, before the last point of a row tile finishes it. -/
def runSum (c : Dev nD) (n : ℕ) (h : n < cfg0.N) : FVec Ideal S512x2048 .f32 :=
  if n % 11 = 10 then k0_pay3 (F := Ideal) (outsAt0 m c n h).2.2 (iblk m c 5 ⟨n, h⟩) (iblk m c 6 ⟨n, h⟩)
      (outsAt0 m c (n - 1) (Nat.lt_of_le_of_lt (Nat.sub_le _ _) h)).1 (iblk m c 7 ⟨n, h⟩)
  else (outsAt0 m c n h).1

theorem runSum_last (c : Dev nD) (t : Fin cfg0.N) (ht : t.val % 11 = 10) (y) : runSum m c t.val t.isLt y
    = ∑ s : Fin 11, part (outsAt0 m c (11 * (t.val / 11) + s.val) (Pipeline.run_point_lt_of_flush t ht s)).2.2
        (iblk m c 5 ⟨11 * (t.val / 11) + s.val, Pipeline.run_point_lt_of_flush t ht s⟩)
        (iblk m c 6 ⟨11 * (t.val / 11) + s.val, Pipeline.run_point_lt_of_flush t ht s⟩)
        (iblk m c 7 ⟨11 * (t.val / 11) + s.val, Pipeline.run_point_lt_of_flush t ht s⟩) y := by
  rw [Pipeline.eq_sum_fin_of_reset_step_apply_of_flush (fun n h => runSum m c n h) 11 (fun _ => (0 : EReal))
    (fun t y => part (outsAt0 m c t.val t.isLt).2.2 (iblk m c 5 t) (iblk m c 6 t) (iblk m c 7 t) y)
    (fun t h y => by
      show runSum m c t.val t.isLt y = _
      unfold runSum
      rw [if_neg (by omega), outA m c t h (by omega), pay3_at, pay2_at])
    (fun t h y => by
      show runSum m c t.val t.isLt y = runSum m c (t.val - 1) _ y + _
      unfold runSum
      rw [if_neg (by omega : ¬(t.val - 1) % 11 = 10)]
      by_cases h1 : t.val % 11 = 10
      · rw [if_pos h1, pay3_at]
      · rw [if_neg h1, outB m c t h h1, pay3_at]) t ht y, zero_add]

/-- The last point of a row tile leaves the rows plus the gated sum. -/
theorem out_last (c : Dev nD) (t : Fin cfg0.N) (ht : t.val % 11 = 10) (p : Fin 512) (j : Fin 2048)
    (x : FVec Ideal S512x2048 .f32) (g : FVec Ideal S1x1x2048 .f32) (hx : x = iblk m c 0 t) (hg : g = iblk m c 4 t) :
    (outsAt0 m c t.val t.isLt).1 (ix2 p j)
      = x (ix2 p j) + g (ix3 (0 : Fin 1) (0 : Fin 1) j) * runSum m c t.val t.isLt (ix2 p j) := by
  subst hx hg
  rw [outC m c t (by omega) ht, pay4_at]
  unfold runSum
  rw [if_pos ht]

/-- The second result at the last point of a row tile: the next layer's rows. -/
theorem next_last (c : Dev nD) (t : Fin cfg0.N) (ht : t.val % 11 = 10) (p : Fin 512) (j : Fin 2048)
    (gn sc sh : FVec Ideal S1x1x2048 .f32) (h8 : gn = iblk m c 8 t) (h10 : sc = iblk m c 10 t) (h9 : sh = iblk m c 9 t) :
    (outsAt0 m c t.val t.isLt).2.1 (ix2 p j)
      = modulated (fun k => (outsAt0 m c t.val t.isLt).1 (ix2 p k)) (gn (ix3 (0 : Fin 1) (0 : Fin 1) j))
          (sc (ix3 (0 : Fin 1) (0 : Fin 1) j)) (sh (ix3 (0 : Fin 1) (0 : Fin 1) j)) j := by
  subst h8 h9 h10
  rw [nextC m c t (by omega) ht, pay5_at]
  congr 1
  funext k
  rw [outC m c t (by omega) ht]

end Cert.Kernel3Ideal.Ffn

end
-- ==== Proof.FirstValue.lean ====
module

public import proofs.«01_k».proof.Proof.FirstScratch

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen
open Cert.Kernel2Ideal.Ffn (meanSq modulated hidden)

/-- Part `w` of the modulation of layer `l` for row `r` (the stream it belongs to), entry `k`. -/
def modAt (mod : FVec Ideal S2x8x12288 .f32) (l : Fin 2) (r : Fin 8704) (w : Fin 6) (k : Fin 2048) : EReal :=
  mod (ix3 l ⟨r.val / 4096, by omega⟩ ⟨2048 * w.val + k.val, by omega⟩)

/-- Row `r`, normalised and modulated. -/
def ffRow (x : FVec Ideal S8704x2048 .f32) (gain : FVec Ideal S2x2048 .f32) (mod : FVec Ideal S2x8x12288 .f32) (r : Fin 8704) (k : Fin 2048) : EReal :=
  modulated (fun k => x (ix2 r k)) (gain (ix2 (0 : Fin 2) k)) (modAt mod 0 r 4 k) (modAt mod 0 r 3 k) k

/-- The feed-forward part of the first layer at row `r`, column `j`. -/
def ffAt (x : FVec Ideal S8704x2048 .f32) (gain : FVec Ideal S2x2048 .f32) (mod : FVec Ideal S2x8x12288 .f32)
    (wg wu : FVec Ideal S2x2048x5632 .f32) (wd : FVec Ideal S2x5632x2048 .f32) (r : Fin 8704) (j : Fin 2048) : EReal :=
  x (ix2 r j) + modAt mod 0 r 5 j * ∑ q : Fin 5632, Cert.Kernel2Ideal.Ffn.hidden (ffRow x gain mod r) (fun k => wg (ix3 (0 : Fin 2) k q))
    (fun k => wu (ix3 (0 : Fin 2) k q)) * wd (ix3 (0 : Fin 2) q j)

/-- The same as an array. -/
def ff (x : FVec Ideal S8704x2048 .f32) (gain : FVec Ideal S2x2048 .f32) (mod : FVec Ideal S2x8x12288 .f32)
    (wg wu : FVec Ideal S2x2048x5632 .f32) (wd : FVec Ideal S2x5632x2048 .f32) : FVec Ideal S8704x2048 .f32 := fun y =>
  ffAt x gain mod wg wu wd (y 0) (y 1)

/-- The next layer's normalised and modulated row `r`, entry `j`. -/
def nextAt (x : FVec Ideal S8704x2048 .f32) (gain : FVec Ideal S2x2048 .f32) (gain2 : FVec Ideal S2x2048 .f32) (mod : FVec Ideal S2x8x12288 .f32)
    (wg wu : FVec Ideal S2x2048x5632 .f32) (wd : FVec Ideal S2x5632x2048 .f32) (r : Fin 8704) (j : Fin 2048) : EReal :=
  modulated (ffAt x gain mod wg wu wd r) (gain2 (ix2 (1 : Fin 2) j)) (modAt mod 1 r 1 j) (modAt mod 1 r 0 j) j

/-- The same as an array. -/
def next (x : FVec Ideal S8704x2048 .f32) (gain : FVec Ideal S2x2048 .f32) (gain2 : FVec Ideal S2x2048 .f32) (mod : FVec Ideal S2x8x12288 .f32)
    (wg wu : FVec Ideal S2x2048x5632 .f32) (wd : FVec Ideal S2x5632x2048 .f32) : FVec Ideal S8704x2048 .bf16 := fun y =>
  nextAt x gain gain2 mod wg wu wd (y 0) (y 1)

variable (m : (ℓ : Loc nD τ sig) → Buf (Elt Ideal) ℓ)

theorem idxA : ∀ t : Fin cfg0.N, win0_0.index t = ![t.val / 11, 0] ∧ win0_1.index t = ![0, 0, 0] ∧ win0_2.index t = ![t.val / 88 * 6 + 3, 0, 0]
    ∧ win0_3.index t = ![t.val / 88 * 6 + 4, 0, 0] ∧ win0_4.index t = ![t.val / 88 * 6 + 5, 0, 0] :=
  (by decide +kernel : ∀ t : Fin grid0.N, _)

theorem idxB : ∀ t : Fin cfg0.N, win0_5.index t = ![0, t.val % 11] ∧ win0_6.index t = ![0, t.val % 11] ∧ win0_7.index t = ![t.val % 11, 0]
    ∧ win0_11.index t = ![t.val / 11, 0] ∧ win0_12.index t = ![t.val / 11, 0] :=
  (by decide +kernel : ∀ t : Fin grid0.N, _)

theorem idxC : ∀ t : Fin cfg0.N, win0_8.index t = ![1, 0, 0] ∧ win0_9.index t = ![48 + t.val / 88 * 6, 0, 0]
    ∧ win0_10.index t = ![48 + t.val / 88 * 6 + 1, 0, 0] :=
  (by decide +kernel : ∀ t : Fin grid0.N, _)

theorem rows_at (c : Dev nD) (t : Fin cfg0.N) (p : Fin 512) (k : Fin 2048) (r : Fin 8704) (h : r.val = t.val / 11 * 512 + p.val) :
    (iblk m c 0 t : FVec Ideal S512x2048 .f32) (ix2 p k) = (m ((c.tc : Thread nD τ).loc main_arg0) : FVec Ideal S8704x2048 .f32) (ix2 r k) := by
  blk_simp [iblk]
  entry_read
  pointwise
  blk_ext [(idxA t).1]

theorem gain_at (c : Dev nD) (t : Fin cfg0.N) (k : Fin 2048) :
    (iblk m c 1 t : FVec Ideal S1x1x2048 .f32) (ix3 (0 : Fin 1) (0 : Fin 1) k) = (m ((c.tc : Thread nD τ).loc main_arg1) : FVec Ideal S2x2048 .f32) (ix2 (0 : Fin 2) k) := by
  blk_simp [iblk]
  entry_read
  pointwise
  blk_ext [(idxA t).2.1]

theorem gain2_at (c : Dev nD) (t : Fin cfg0.N) (k : Fin 2048) :
    (iblk m c 8 t : FVec Ideal S1x1x2048 .f32) (ix3 (0 : Fin 1) (0 : Fin 1) k) = (m ((c.tc : Thread nD τ).loc main_arg2) : FVec Ideal S2x2048 .f32) (ix2 (1 : Fin 2) k) := by
  blk_simp [iblk]
  entry_read
  pointwise
  blk_ext [(idxC t).1]

theorem shift_at (c : Dev nD) (t : Fin cfg0.N) (k : Fin 2048) (r : Fin 8704) (h : r.val / 4096 = t.val / 88) :
    (iblk m c 2 t : FVec Ideal S1x1x2048 .f32) (ix3 (0 : Fin 1) (0 : Fin 1) k) = modAt (m ((c.tc : Thread nD τ).loc main_arg3)) 0 r 3 k := by
  unfold modAt
  blk_simp [iblk]
  entry_read
  pointwise
  blk_ext [(idxA t).2.2.1]

theorem scale_at (c : Dev nD) (t : Fin cfg0.N) (k : Fin 2048) (r : Fin 8704) (h : r.val / 4096 = t.val / 88) :
    (iblk m c 3 t : FVec Ideal S1x1x2048 .f32) (ix3 (0 : Fin 1) (0 : Fin 1) k) = modAt (m ((c.tc : Thread nD τ).loc main_arg3)) 0 r 4 k := by
  unfold modAt
  blk_simp [iblk]
  entry_read
  pointwise
  blk_ext [(idxA t).2.2.2.1]

theorem gate_at (c : Dev nD) (t : Fin cfg0.N) (k : Fin 2048) (r : Fin 8704) (h : r.val / 4096 = t.val / 88) :
    (iblk m c 4 t : FVec Ideal S1x1x2048 .f32) (ix3 (0 : Fin 1) (0 : Fin 1) k) = modAt (m ((c.tc : Thread nD τ).loc main_arg3)) 0 r 5 k := by
  unfold modAt
  blk_simp [iblk]
  entry_read
  pointwise
  blk_ext [(idxA t).2.2.2.2]

theorem shift2_at (c : Dev nD) (t : Fin cfg0.N) (k : Fin 2048) (r : Fin 8704) (h : r.val / 4096 = t.val / 88) :
    (iblk m c 9 t : FVec Ideal S1x1x2048 .f32) (ix3 (0 : Fin 1) (0 : Fin 1) k) = modAt (m ((c.tc : Thread nD τ).loc main_arg3)) 1 r 0 k := by
  unfold modAt
  blk_simp [iblk]
  entry_read
  pointwise
  blk_ext [(idxC t).2.1]

theorem scale2_at (c : Dev nD) (t : Fin cfg0.N) (k : Fin 2048) (r : Fin 8704) (h : r.val / 4096 = t.val / 88) :
    (iblk m c 10 t : FVec Ideal S1x1x2048 .f32) (ix3 (0 : Fin 1) (0 : Fin 1) k) = modAt (m ((c.tc : Thread nD τ).loc main_arg3)) 1 r 1 k := by
  unfold modAt
  blk_simp [iblk]
  entry_read
  pointwise
  blk_ext [(idxC t).2.2]

theorem wg_at (c : Dev nD) (t : Fin cfg0.N) (k : Fin 2048) (q : Fin 512) (l : Fin 5632) (h : l.val = t.val % 11 * 512 + q.val) :
    (iblk m c 5 t : FVec Ideal S2048x512 .bf16) (ix2 k q) = (m ((c.tc : Thread nD τ).loc main_arg4) : FVec Ideal S2x2048x5632 .f32) (ix3 (0 : Fin 2) k l) := by
  blk_simp [iblk]
  entry_read
  pointwise
  blk_ext [(idxB t).1]

theorem wu_at (c : Dev nD) (t : Fin cfg0.N) (k : Fin 2048) (q : Fin 512) (l : Fin 5632) (h : l.val = t.val % 11 * 512 + q.val) :
    (iblk m c 6 t : FVec Ideal S2048x512 .bf16) (ix2 k q) = (m ((c.tc : Thread nD τ).loc main_arg5) : FVec Ideal S2x2048x5632 .f32) (ix3 (0 : Fin 2) k l) := by
  blk_simp [iblk]
  entry_read
  pointwise
  blk_ext [(idxB t).2.1]

theorem wd_at (c : Dev nD) (t : Fin cfg0.N) (q : Fin 512) (j : Fin 2048) (l : Fin 5632) (h : l.val = t.val % 11 * 512 + q.val) :
    (iblk m c 7 t : FVec Ideal S512x2048 .bf16) (ix2 q j) = (m ((c.tc : Thread nD τ).loc main_arg6) : FVec Ideal S2x5632x2048 .f32) (ix3 (0 : Fin 2) l j) := by
  blk_simp [iblk]
  entry_read
  pointwise
  blk_ext [(idxB t).2.2.1]

/-- The stored rows are the normalised and modulated rows. -/
theorem scratch_row (c : Dev nD) (t : Fin cfg0.N) (p : Fin 512) (k : Fin 2048) (r : Fin 8704)
    (h : r.val = t.val / 11 * 512 + p.val) : (outsAt0 m c t.val t.isLt).2.2 (ix2 p k)
      = ffRow (m ((c.tc : Thread nD τ).loc main_arg0)) (m ((c.tc : Thread nD τ).loc main_arg1)) (m ((c.tc : Thread nD τ).loc main_arg3)) r k := by
  have hN := lt_of_lt_of_eq t.isLt (show cfg0.N = 187 from N_0)
  have hp := p.isLt
  have e1 : (⟨11 * (t.val / 11), Pipeline.run_start_lt t⟩ : Fin cfg0.N).val = 11 * (t.val / 11) := rfl
  rw [scratch_at m c t, pay1_at, gain_at, scale_at m c _ k r (by rw [e1]; omega), shift_at m c _ k r (by rw [e1]; omega)]
  unfold ffRow
  congr 1
  funext k'
  exact rows_at m c _ p k' r (by rw [e1]; omega)

/-- The last point of a row tile leaves the feed-forward part of its rows. -/
theorem row_at (c : Dev nD) (t : Fin cfg0.N) (ht : t.val % 11 = 10) (p : Fin 512) (j : Fin 2048) (r : Fin 8704)
    (hr : r.val = t.val / 11 * 512 + p.val) : (outsAt0 m c t.val t.isLt).1 (ix2 p j)
      = ffAt (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) r j := by
  have hN := lt_of_lt_of_eq t.isLt (show cfg0.N = 187 from N_0)
  have hp := p.isLt
  rw [out_last m c t ht p j _ _ rfl rfl, rows_at m c t p j r hr, gate_at m c t j r (by omega), runSum_last m c t ht]
  unfold ffAt
  congr 2
  refine Fin.sum_mul_add_congr fun s q hl => ?_
  have es : (⟨11 * (t.val / 11) + s.val, Pipeline.run_point_lt_of_flush t ht s⟩ : Fin cfg0.N).val = 11 * (t.val / 11) + s.val := rfl
  have hs := s.isLt
  have eq : (⟨s.val * 512 + q.val, hl⟩ : Fin 5632).val = s.val * 512 + q.val := rfl
  have em : (11 * (t.val / 11) + s.val) % 11 = s.val := by omega
  refine congr (congrArg HMul.hMul ?_) (wd_at m c _ q j _ (by rw [es, em]))
  refine congr (congr (congrArg Cert.Kernel2Ideal.Ffn.hidden (funext fun k => ?_)) (funext fun k => ?_)) (funext fun k => ?_)
  · exact scratch_row m c ⟨11 * (t.val / 11) + s.val, Pipeline.run_point_lt_of_flush t ht s⟩ p k r (by rw [es]; omega)
  · exact wg_at m c _ k q _ (by rw [es, em])
  · exact wu_at m c _ k q _ (by rw [es, em])

theorem tile_at (c : Dev nD) (t : Fin cfg0.N) (ht : t.val % 11 = 10) (y : S512x2048.Idx) (z : S8704x2048.Idx)
    (h0 : (z 0 : ℕ) = t.val / 11 * 512 + (y 0 : ℕ)) (h1 : (z 1 : ℕ) = (y 1 : ℕ)) :
    (outsAt0 m c t.val t.isLt).1 y = ff (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) z := by
  obtain ⟨p, j, rfl⟩ : ∃ p j, y = ix2 p j := ⟨y 0, y 1, by funext a; fin_cases a <;> rfl⟩
  have ej : (z 1 : Fin 2048) = j := Fin.ext h1
  unfold ff
  rw [ej]
  exact row_at m c t ht p j (z 0) h0

theorem next_tile_at (c : Dev nD) (t : Fin cfg0.N) (ht : t.val % 11 = 10) (y : S512x2048.Idx) (z : S8704x2048.Idx)
    (h0 : (z 0 : ℕ) = t.val / 11 * 512 + (y 0 : ℕ)) (h1 : (z 1 : ℕ) = (y 1 : ℕ)) :
    (outsAt0 m c t.val t.isLt).2.1 y = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) z := by
  have hN := lt_of_lt_of_eq t.isLt (show cfg0.N = 187 from N_0)
  obtain ⟨p, j, rfl⟩ : ∃ p j, y = ix2 p j := ⟨y 0, y 1, by funext a; fin_cases a <;> rfl⟩
  have ej : (z 1 : Fin 2048) = j := Fin.ext h1
  have hp := p.isLt
  have h0' : (z 0 : ℕ) = t.val / 11 * 512 + p.val := h0
  unfold next nextAt
  rw [ej, next_last m c t ht p j _ _ _ rfl rfl rfl, gain2_at, scale2_at m c t j (z 0) (by omega), shift2_at m c t j (z 0) (by omega)]
  congr 1
  funext k
  exact row_at m c t ht p k (z 0) h0

/-- The first array the call returns is the feed-forward part of its arguments. -/
theorem final (c : Dev nD) : (dats m 0 c).arrAt 11 cfg0.N = ff (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 11 _ (by decide +kernel) fun t hf y => ?_
  have ht := (flush0_11 t).mp hf
  have hN := lt_of_lt_of_eq t.isLt (show cfg0.N = 187 from N_0)
  blk_simp
  rw [after0_11]
  refine tile_at m c t ht y _ ?_ ?_
  · blk_simp [(idxB t).2.2.2.1]
  · blk_simp [(idxB t).2.2.2.1]

/-- The second array the call returns is the next layer's rows. -/
theorem final_next (c : Dev nD) : (dats m 0 c).arrAt 12 cfg0.N = next (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 12 _ (by decide +kernel) fun t hf y => ?_
  have ht := (flush0_12 t).mp hf
  have hN := lt_of_lt_of_eq t.isLt (show cfg0.N = 187 from N_0)
  blk_simp
  rw [after0_12]
  refine next_tile_at m c t ht y _ ?_ ?_
  · blk_simp [(idxB t).2.2.2.2]
  · blk_simp [(idxB t).2.2.2.2]

end Cert.Kernel3Ideal.Ffn

end
-- ==== Proof.FirstRef.lean ====
module

public import proofs.«01_k».proof.Proof.FirstValue
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Ffn

open Cert.Reference3Ideal Cert.Reference3Ideal.Gen Cert.Reference3Ideal.Value Cert.Kernel3Ideal.Ffn
open Cert.Kernel2Ideal.Ffn (meanSq modulated hidden)

variable (V0 : Valuation τ sig (Elt Ideal))

theorem x_at (b : Fin 2) (n : Fin 4096) (k : Fin 2048) (r : Fin 8704) (h : r.val = 4096 * b.val + n.val) :
    res_main_v1 V0 (ix3 b n k) = (V0 (Proc.devRef .tc main_arg0) : FVec Ideal S8704x2048 .f32) (ix2 r k) := by
  pointwise [res_main_v1]
  blk_point []

theorem xc_at (b : Fin 2) (n : Fin 256) (k : Fin 2048) (r : Fin 8704) (h : r.val = 8192 + 256 * b.val + n.val) :
    res_main_v3 V0 (ix3 b n k) = (V0 (Proc.devRef .tc main_arg0) : FVec Ideal S8704x2048 .f32) (ix2 r k) := by
  pointwise [res_main_v3]
  blk_point []

theorem row_at (b : Fin 2) (n : Fin 4096) (k : Fin 2048) (r : Fin 8704) (h : r.val = 4096 * b.val + n.val) :
    res_main_v42 V0 (ix3 b n k) = ffRow (V0 (Proc.devRef .tc main_arg0) : FVec Ideal S8704x2048 .f32) (V0 (Proc.devRef .tc main_arg1) : FVec Ideal S2x2048 .f32) (V0 (Proc.devRef .tc main_arg3) : FVec Ideal S2x8x12288 .f32) r k := by
  unfold ffRow modulated meanSq modAt
  pointwise [res_main_v42, res_main_v6]
  simp only [x_at V0 b n _ r h]
  blk_point []

theorem rowc_at (b : Fin 2) (n : Fin 256) (k : Fin 2048) (r : Fin 8704) (h : r.val = 8192 + 256 * b.val + n.val) :
    res_main_v85 V0 (ix3 b n k) = ffRow (V0 (Proc.devRef .tc main_arg0) : FVec Ideal S8704x2048 .f32) (V0 (Proc.devRef .tc main_arg1) : FVec Ideal S2x2048 .f32) (V0 (Proc.devRef .tc main_arg3) : FVec Ideal S2x8x12288 .f32) r k := by
  unfold ffRow modulated meanSq modAt
  pointwise [res_main_v85, res_main_v9]
  simp only [xc_at V0 b n _ r h]
  blk_point []

theorem gate_at (b : Fin 2) (n : Fin 4096) (q : Fin 5632) (r : Fin 8704) (h : r.val = 4096 * b.val + n.val) :
    res_main_v45 V0 (ix3 b n q) = ∑ k : Fin 2048, ffRow (V0 (Proc.devRef .tc main_arg0) : FVec Ideal S8704x2048 .f32) (V0 (Proc.devRef .tc main_arg1) : FVec Ideal S2x2048 .f32) (V0 (Proc.devRef .tc main_arg3) : FVec Ideal S2x8x12288 .f32) r k * (V0 (Proc.devRef .tc main_arg4) : FVec Ideal S2x2048x5632 .f32) (ix3 (0 : Fin 2) k q) := by
  pointwise [res_main_v45]
  simp only [row_at V0 b n _ r h]

theorem gatec_at (b : Fin 2) (n : Fin 256) (q : Fin 5632) (r : Fin 8704) (h : r.val = 8192 + 256 * b.val + n.val) :
    res_main_v88 V0 (ix3 b n q) = ∑ k : Fin 2048, ffRow (V0 (Proc.devRef .tc main_arg0) : FVec Ideal S8704x2048 .f32) (V0 (Proc.devRef .tc main_arg1) : FVec Ideal S2x2048 .f32) (V0 (Proc.devRef .tc main_arg3) : FVec Ideal S2x8x12288 .f32) r k * (V0 (Proc.devRef .tc main_arg4) : FVec Ideal S2x2048x5632 .f32) (ix3 (0 : Fin 2) k q) := by
  pointwise [res_main_v88]
  simp only [rowc_at V0 b n _ r h]

theorem ff_at (b : Fin 2) (n : Fin 4096) (j : Fin 2048) (r : Fin 8704) (h : r.val = 4096 * b.val + n.val) :
    res_main_v56 V0 (ix3 b n j) = ffAt (V0 (Proc.devRef .tc main_arg0) : FVec Ideal S8704x2048 .f32) (V0 (Proc.devRef .tc main_arg1) : FVec Ideal S2x2048 .f32) (V0 (Proc.devRef .tc main_arg3) : FVec Ideal S2x8x12288 .f32) (V0 (Proc.devRef .tc main_arg4) : FVec Ideal S2x2048x5632 .f32) (V0 (Proc.devRef .tc main_arg5) : FVec Ideal S2x2048x5632 .f32) (V0 (Proc.devRef .tc main_arg6) : FVec Ideal S2x5632x2048 .f32) r j := by
  unfold ffAt Cert.Kernel2Ideal.Ffn.hidden modAt
  pointwise [res_main_v56, res_main_v6]
  simp only [x_at V0 b n _ r h, row_at V0 b n _ r h, gate_at V0 b n _ r h, Ideal.logistic]
  blk_point []

theorem ffc_at (b : Fin 2) (n : Fin 256) (j : Fin 2048) (r : Fin 8704) (h : r.val = 8192 + 256 * b.val + n.val) :
    res_main_v100 V0 (ix3 b n j) = ffAt (V0 (Proc.devRef .tc main_arg0) : FVec Ideal S8704x2048 .f32) (V0 (Proc.devRef .tc main_arg1) : FVec Ideal S2x2048 .f32) (V0 (Proc.devRef .tc main_arg3) : FVec Ideal S2x8x12288 .f32) (V0 (Proc.devRef .tc main_arg4) : FVec Ideal S2x2048x5632 .f32) (V0 (Proc.devRef .tc main_arg5) : FVec Ideal S2x2048x5632 .f32) (V0 (Proc.devRef .tc main_arg6) : FVec Ideal S2x5632x2048 .f32) r j := by
  unfold ffAt Cert.Kernel2Ideal.Ffn.hidden modAt
  pointwise [res_main_v100, res_main_v9]
  simp only [xc_at V0 b n _ r h, rowc_at V0 b n _ r h, gatec_at V0 b n _ r h, Ideal.logistic]
  blk_point []

/-- The first result of the reference's program. -/
def outX : FVec Ideal S8704x2048 .f32 :=
  concatenate S8704x2048 0 [⟨S8192x2048, (shapeCast _ (res_main_v56 V0) shapeCasts_S2x4096x2048_S8192x2048)⟩, ⟨S512x2048, (shapeCast _ (res_main_v100 V0) shapeCasts_S2x256x2048_S512x2048)⟩] concatenates_S8192x2048_S512x2048_S8704x2048_d0

theorem outX_eq : outX V0 = ff (V0 (Proc.devRef .tc main_arg0) : FVec Ideal S8704x2048 .f32) (V0 (Proc.devRef .tc main_arg1) : FVec Ideal S2x2048 .f32) (V0 (Proc.devRef .tc main_arg3) : FVec Ideal S2x8x12288 .f32) (V0 (Proc.devRef .tc main_arg4) : FVec Ideal S2x2048x5632 .f32) (V0 (Proc.devRef .tc main_arg5) : FVec Ideal S2x2048x5632 .f32) (V0 (Proc.devRef .tc main_arg6) : FVec Ideal S2x5632x2048 .f32) := by
  funext y
  obtain ⟨r, j, rfl⟩ : ∃ r j, y = ix2 r j := ⟨y 0, y 1, by funext a; fin_cases a <;> rfl⟩
  show _ = ffAt _ _ _ _ _ _ r j
  pointwise [outX]
  split_ifs with hy
  · refine ff_at V0 _ _ _ _ ?_
    show r.val = 4096 * (r.val / 4096) + r.val % 4096
    omega
  · refine ffc_at V0 _ _ _ _ ?_
    show r.val = 8192 + 256 * ((r.val - 8192) / 256) + (r.val - 8192) % 256
    have h' : ¬ r.val < 8192 := hy
    omega
  · exact absurd rfl ‹_›

/-- The next layer's rows of the latent stream. -/
def hR : FVec Ideal S2x4096x2048 .f32 :=
  addf (mulf (mulf (mulf (res_main_v56 V0) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (res_main_v56 V0) (res_main_v56 V0)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ (extractStridedSlice S1x2048 ![1, 0] (V0 (Proc.devRef .tc main_arg2)) slices_S2x2048_S1x2048_1_0) shapeCasts_S1x2048_S2048)))) (broadcastInDim S2x4096x2048 ![0, 1, 2] bcast_S2x1x2048_S2x4096x2048_0_1_2 (addf (broadcastInDim S2x1x2048 ![] bcast_S_S2x1x2048 (constant S_ .f32 0x3F800000#32)) (shapeCast _ (extractStridedSlice S2x1x1x2048 ![0, 1, 0, 0] (res_main_v12 V0) slices_S2x6x1x2048_S2x1x1x2048_0_1_0_0) shapeCasts_S2x1x1x2048_S2x1x2048)))) (broadcastInDim S2x4096x2048 ![0, 1, 2] bcast_S2x1x2048_S2x4096x2048_0_1_2 (shapeCast _ (extractStridedSlice S2x1x1x2048 ![0, 0, 0, 0] (res_main_v12 V0) slices_S2x6x1x2048_S2x1x1x2048_0_0_0_0) shapeCasts_S2x1x1x2048_S2x1x2048))

/-- The next layer's rows of the context stream. -/
def hcR : FVec Ideal S2x256x2048 .f32 :=
  addf (mulf (mulf (mulf (res_main_v100 V0) (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf (res_main_v100 V0) (res_main_v100 V0)) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 (shapeCast _ (extractStridedSlice S1x2048 ![1, 0] (V0 (Proc.devRef .tc main_arg2)) slices_S2x2048_S1x2048_1_0) shapeCasts_S1x2048_S2048)))) (broadcastInDim S2x256x2048 ![0, 1, 2] bcast_S1x1x2048_S2x256x2048_0_1_2 (broadcastInDim S1x1x2048 ![2] bcast_S2048_S1x1x2048_2 (addf (broadcastInDim S2048 ![] bcast_S_S2048 (constant S_ .f32 0x3F800000#32)) (shapeCast _ (extractStridedSlice S1x2048 ![1, 0] (res_main_v15 V0) slices_S6x2048_S1x2048_1_0) shapeCasts_S1x2048_S2048))))) (broadcastInDim S2x256x2048 ![0, 1, 2] bcast_S1x1x2048_S2x256x2048_0_1_2 (broadcastInDim S1x1x2048 ![2] bcast_S2048_S1x1x2048_2 (shapeCast _ (extractStridedSlice S1x2048 ![0, 0] (res_main_v15 V0) slices_S6x2048_S1x2048_0_0) shapeCasts_S1x2048_S2048)))

theorem h_at (b : Fin 2) (n : Fin 4096) (j : Fin 2048) (r : Fin 8704) (h : r.val = 4096 * b.val + n.val) :
    hR V0 (ix3 b n j) = nextAt (V0 (Proc.devRef .tc main_arg0) : FVec Ideal S8704x2048 .f32) (V0 (Proc.devRef .tc main_arg1) : FVec Ideal S2x2048 .f32) (V0 (Proc.devRef .tc main_arg2) : FVec Ideal S2x2048 .f32) (V0 (Proc.devRef .tc main_arg3) : FVec Ideal S2x8x12288 .f32) (V0 (Proc.devRef .tc main_arg4) : FVec Ideal S2x2048x5632 .f32) (V0 (Proc.devRef .tc main_arg5) : FVec Ideal S2x2048x5632 .f32) (V0 (Proc.devRef .tc main_arg6) : FVec Ideal S2x5632x2048 .f32) r j := by
  unfold nextAt modulated meanSq modAt
  pointwise [hR, res_main_v12]
  simp only [ff_at V0 b n _ r h]
  blk_point []

theorem hc_at (b : Fin 2) (n : Fin 256) (j : Fin 2048) (r : Fin 8704) (h : r.val = 8192 + 256 * b.val + n.val) :
    hcR V0 (ix3 b n j) = nextAt (V0 (Proc.devRef .tc main_arg0) : FVec Ideal S8704x2048 .f32) (V0 (Proc.devRef .tc main_arg1) : FVec Ideal S2x2048 .f32) (V0 (Proc.devRef .tc main_arg2) : FVec Ideal S2x2048 .f32) (V0 (Proc.devRef .tc main_arg3) : FVec Ideal S2x8x12288 .f32) (V0 (Proc.devRef .tc main_arg4) : FVec Ideal S2x2048x5632 .f32) (V0 (Proc.devRef .tc main_arg5) : FVec Ideal S2x2048x5632 .f32) (V0 (Proc.devRef .tc main_arg6) : FVec Ideal S2x5632x2048 .f32) r j := by
  unfold nextAt modulated meanSq modAt
  pointwise [hcR, res_main_v15]
  simp only [ffc_at V0 b n _ r h]
  blk_point []

/-- The second result of the reference's program. -/
def outH : FVec Ideal S8704x2048 .bf16 :=
  truncf .bf16 (concatenate S8704x2048 0 [⟨S8192x2048, (shapeCast _ (hR V0) shapeCasts_S2x4096x2048_S8192x2048)⟩, ⟨S512x2048, (shapeCast _ (hcR V0) shapeCasts_S2x256x2048_S512x2048)⟩] concatenates_S8192x2048_S512x2048_S8704x2048_d0) bitsLt_bf16_f32

theorem outH_eq : outH V0 = next (V0 (Proc.devRef .tc main_arg0) : FVec Ideal S8704x2048 .f32) (V0 (Proc.devRef .tc main_arg1) : FVec Ideal S2x2048 .f32) (V0 (Proc.devRef .tc main_arg2) : FVec Ideal S2x2048 .f32) (V0 (Proc.devRef .tc main_arg3) : FVec Ideal S2x8x12288 .f32) (V0 (Proc.devRef .tc main_arg4) : FVec Ideal S2x2048x5632 .f32) (V0 (Proc.devRef .tc main_arg5) : FVec Ideal S2x2048x5632 .f32) (V0 (Proc.devRef .tc main_arg6) : FVec Ideal S2x5632x2048 .f32) := by
  funext y
  obtain ⟨r, j, rfl⟩ : ∃ r j, y = ix2 r j := ⟨y 0, y 1, by funext a; fin_cases a <;> rfl⟩
  show _ = nextAt _ _ _ _ _ _ _ r j
  pointwise [outH]
  split_ifs with hy
  · refine h_at V0 _ _ _ _ ?_
    show r.val = 4096 * (r.val / 4096) + r.val % 4096
    omega
  · refine hc_at V0 _ _ _ _ ?_
    show r.val = 8192 + 256 * ((r.val - 8192) / 256) + (r.val - 8192) % 256
    have h' : ¬ r.val < 8192 := hy
    omega
  · exact absurd rfl ‹_›

end Cert.Reference3Ideal.Ffn

end
-- ==== Proof.FirstPair.lean ====
module

public import proofs.«01_k».proof.Defs
public import proofs.«01_k».proof.Proof.FirstRef
public import proofs.«01_k».proof.Proof.Gen.Reference3Ideal.Run
public import Idealize.ShloMosaic.Adequacy
public import Idealize.ShloMosaic.Init
public import Idealize.ShloMosaic.Lib.Tactic.ValueTie

@[expose] public section

set_option maxRecDepth 16384

noncomputable section

open Idealize.ShloMosaic Idealize.ShloMosaic.TcCoe Idealize.SL.Sem

namespace Cert.Proof

/-- `ff` respects equality of its arguments. -/
theorem first_congr {x x' gain gain' mod mod' wg wg' wu wu' wd wd'} (h0 : x = x') (h1 : gain = gain') (h3 : mod = mod')
    (h4 : wg = wg') (h5 : wu = wu') (h6 : wd = wd') :
    Cert.Kernel3Ideal.Ffn.ff x gain mod wg wu wd = Cert.Kernel3Ideal.Ffn.ff x' gain' mod' wg' wu' wd' := by
  subst h0 h1 h3 h4 h5 h6; rfl

/-- `next` respects equality of its arguments. -/
theorem next_congr {x x' gain gain' gain2 gain2' mod mod' wg wg' wu wu' wd wd'} (h0 : x = x') (h1 : gain = gain')
    (h2 : gain2 = gain2') (h3 : mod = mod') (h4 : wg = wg') (h5 : wu = wu') (h6 : wd = wd') :
    Cert.Kernel3Ideal.Ffn.next x gain gain2 mod wg wu wd = Cert.Kernel3Ideal.Ffn.next x' gain' gain2' mod' wg' wu' wd' := by
  subst h0 h1 h2 h3 h4 h5 h6; rfl

/-- The first layer's feed-forward: the two programs end with equal results. -/
theorem first_pair : algebraic_Kernel3Ideal_Reference3Ideal := by
  pair_intro
  · run_from Cert.Kernel3Ideal.Gen.run_main m g
  · run_from Cert.Reference3Ideal.Value.run m' g'
    · obtain ⟨a0, a1, a2, a3, a4, a5, a6⟩ := hagree c
      exact (Cert.Reference3Ideal.Ffn.outX_eq (StableHlo.launchContents m' c)).trans
        ((first_congr a0 a1 a3 a4 a5 a6).trans (Cert.Kernel3Ideal.Ffn.final m c).symm)
    · obtain ⟨a0, a1, a2, a3, a4, a5, a6⟩ := hagree c
      exact (Cert.Reference3Ideal.Ffn.outH_eq (StableHlo.launchContents m' c)).trans
        ((next_congr a0 a1 a2 a3 a4 a5 a6).trans (Cert.Kernel3Ideal.Ffn.final_next m c).symm)

end Cert.Proof

end
-- ==== Proof.MixScratch.lean ====
module

public import proofs.«01_k».proof.Proof.Gen.Kernel4Ideal.Frame
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

variable (m : (ℓ : Loc nD τ sig) → Buf (Elt Ideal) ℓ)

/-- The merged rows as a point stores them, column chunk by column chunk. -/
def stored (i : grid0.Coords) (f fc : FVec Ideal S512x512 .bf16) (a ac : FVec Ideal S512x1024 .bf16)
    (cm : FVec Ideal S512x512 .bf16) (g0 g1 g2 : FVec Ideal S512x2048 .bf16) (wf : FVec Ideal S512x2048 .bf16)
    (wm : FVec Ideal S1024x2048 .bf16) (wc : FVec Ideal S512x2048 .bf16) : FVec Ideal S512x2048 .bf16 := fun j =>
  View.canon (Val := Elt Ideal) (s := S512x2048) (e := .bf16) [⟨Rect.unit ![0, 1536] ![512, 512] inb_S512x2048_S512x512_0_1536,
      k0_pay13 (F := Ideal) (k0_pay11 (F := Ideal) (k0_pay3 (F := Ideal) i fc f) (k0_pay4 (F := Ideal) i ac a) (View.ld (Val := Elt Ideal) (e' := .bf16) g0 (Rect.unit ![0, 1536] ![512, 512] inb_S512x2048_S512x512_0_1536)) (View.ld (Val := Elt Ideal) (e' := .bf16) wf (Rect.unit ![0, 1536] ![512, 512] inb_S512x2048_S512x512_0_1536)) (View.ld (Val := Elt Ideal) (e' := .bf16) g1 (Rect.unit ![0, 1536] ![512, 512] inb_S512x2048_S512x512_0_1536)) (View.ld (Val := Elt Ideal) (e' := .bf16) wm (Rect.unit ![0, 1536] ![1024, 512] inb_S1024x2048_S1024x512_0_1536)))
        (k0_pay12 (F := Ideal) cm (View.ld (Val := Elt Ideal) (e' := .bf16) g2 (Rect.unit ![0, 1536] ![512, 512] inb_S512x2048_S512x512_0_1536)) (View.ld (Val := Elt Ideal) (e' := .bf16) wc (Rect.unit ![0, 1536] ![512, 512] inb_S512x2048_S512x512_0_1536)))⟩,
    ⟨Rect.unit ![0, 1024] ![512, 512] inb_S512x2048_S512x512_0_1024,
      k0_pay10 (F := Ideal) (k0_pay4 (F := Ideal) i ac a) cm (k0_pay8 (F := Ideal) (k0_pay3 (F := Ideal) i fc f) (View.ld (Val := Elt Ideal) (e' := .bf16) g0 (Rect.unit ![0, 1024] ![512, 512] inb_S512x2048_S512x512_0_1024)) (View.ld (Val := Elt Ideal) (e' := .bf16) wf (Rect.unit ![0, 1024] ![512, 512] inb_S512x2048_S512x512_0_1024)))
        (k0_pay9 (F := Ideal) (View.ld (Val := Elt Ideal) (e' := .bf16) g1 (Rect.unit ![0, 1024] ![512, 512] inb_S512x2048_S512x512_0_1024))) (View.ld (Val := Elt Ideal) (e' := .bf16) wm (Rect.unit ![0, 1024] ![1024, 512] inb_S1024x2048_S1024x512_0_1024)) (View.ld (Val := Elt Ideal) (e' := .bf16) g2 (Rect.unit ![0, 1024] ![512, 512] inb_S512x2048_S512x512_0_1024)) (View.ld (Val := Elt Ideal) (e' := .bf16) wc (Rect.unit ![0, 1024] ![512, 512] inb_S512x2048_S512x512_0_1024))⟩,
    ⟨Rect.unit ![0, 512] ![512, 512] inb_S512x2048_S512x512_0_512,
      k0_pay7 (F := Ideal) (k0_pay3 (F := Ideal) i fc f) (k0_pay4 (F := Ideal) i ac a) cm (View.ld (Val := Elt Ideal) (e' := .bf16) g0 (Rect.unit ![0, 512] ![512, 512] inb_S512x2048_S512x512_0_512)) (View.ld (Val := Elt Ideal) (e' := .bf16) wf (Rect.unit ![0, 512] ![512, 512] inb_S512x2048_S512x512_0_512)) (View.ld (Val := Elt Ideal) (e' := .bf16) g1 (Rect.unit ![0, 512] ![512, 512] inb_S512x2048_S512x512_0_512)) (View.ld (Val := Elt Ideal) (e' := .bf16) wm (Rect.unit ![0, 512] ![1024, 512] inb_S1024x2048_S1024x512_0_512)) (View.ld (Val := Elt Ideal) (e' := .bf16) g2 (Rect.unit ![0, 512] ![512, 512] inb_S512x2048_S512x512_0_512)) (View.ld (Val := Elt Ideal) (e' := .bf16) wc (Rect.unit ![0, 512] ![512, 512] inb_S512x2048_S512x512_0_512))⟩,
    ⟨Rect.unit ![0, 0] ![512, 512] inb_S512x2048_S512x512_0_0,
      k0_pay6 (F := Ideal) (k0_pay5 (F := Ideal) i fc f ac a cm (View.ld (Val := Elt Ideal) (e' := .bf16) g0 (Rect.unit ![0, 0] ![512, 512] inb_S512x2048_S512x512_0_0)) (View.ld (Val := Elt Ideal) (e' := .bf16) wf (Rect.unit ![0, 0] ![512, 512] inb_S512x2048_S512x512_0_0)) (View.ld (Val := Elt Ideal) (e' := .bf16) g1 (Rect.unit ![0, 0] ![512, 512] inb_S512x2048_S512x512_0_0)) (View.ld (Val := Elt Ideal) (e' := .bf16) wm (Rect.unit ![0, 0] ![1024, 512] inb_S1024x2048_S1024x512_0_0)) (View.ld (Val := Elt Ideal) (e' := .bf16) g2 (Rect.unit ![0, 0] ![512, 512] inb_S512x2048_S512x512_0_0)) (View.ld (Val := Elt Ideal) (e' := .bf16) wc (Rect.unit ![0, 0] ![512, 512] inb_S512x2048_S512x512_0_0)))⟩]
    ((Rect.unit (s := S512x2048) ![0, 0] ![512, 2048] inb_S512x2048_S512x2048_0_0).idx j)

/-- What a point stores into its output block, column chunk by column chunk, from the merged rows. -/
def outTile (h : FVec Ideal S512x2048 .bf16) (x : FVec Ideal S512x2048 .f32) (g : FVec Ideal S1x1x2048 .f32)
    (wo : FVec Ideal S2048x2048 .bf16) : FVec Ideal S512x2048 .f32 :=
  View.canon (Val := Elt Ideal) (s := S512x2048) (e := .f32) [⟨Rect.unit ![0, 1536] ![512, 512] inb_S512x2048_S512x512_0_1536,
      k0_pay2 (F := Ideal) h (View.ld (Val := Elt Ideal) (e' := .bf16) wo (Rect.unit ![0, 1536] ![2048, 512] inb_S2048x2048_S2048x512_0_1536)) (View.ld (Val := Elt Ideal) (e' := .f32) x (Rect.unit ![0, 1536] ![512, 512] inb_S512x2048_S512x512_0_1536)) (View.ld (Val := Elt Ideal) (e' := .f32) g (Rect.unit ![0, 0, 1536] ![1, 1, 512] inb_S1x1x2048_S1x1x512_0_0_1536))⟩,
    ⟨Rect.unit ![0, 1024] ![512, 512] inb_S512x2048_S512x512_0_1024,
      k0_pay1 (F := Ideal) (k0_pay16 (F := Ideal) h (View.ld (Val := Elt Ideal) (e' := .bf16) wo (Rect.unit ![0, 1024] ![2048, 512] inb_S2048x2048_S2048x512_0_1024))) (View.ld (Val := Elt Ideal) (e' := .f32) x (Rect.unit ![0, 1024] ![512, 512] inb_S512x2048_S512x512_0_1024)) (View.ld (Val := Elt Ideal) (e' := .f32) g (Rect.unit ![0, 0, 1024] ![1, 1, 512] inb_S1x1x2048_S1x1x512_0_0_1024))⟩,
    ⟨Rect.unit ![0, 512] ![512, 512] inb_S512x2048_S512x512_0_512,
      k0_pay15 (F := Ideal) h (View.ld (Val := Elt Ideal) (e' := .bf16) wo (Rect.unit ![0, 512] ![2048, 512] inb_S2048x2048_S2048x512_0_512)) (View.ld (Val := Elt Ideal) (e' := .f32) x (Rect.unit ![0, 512] ![512, 512] inb_S512x2048_S512x512_0_512)) (View.ld (Val := Elt Ideal) (e' := .f32) g (Rect.unit ![0, 0, 512] ![1, 1, 512] inb_S1x1x2048_S1x1x512_0_0_512))⟩,
    ⟨Rect.unit ![0, 0] ![512, 512] inb_S512x2048_S512x512_0_0,
      k0_pay14 (F := Ideal) h (View.ld (Val := Elt Ideal) (e' := .bf16) wo (Rect.unit ![0, 0] ![2048, 512] inb_S2048x2048_S2048x512_0_0)) (View.ld (Val := Elt Ideal) (e' := .f32) x (Rect.unit ![0, 0] ![512, 512] inb_S512x2048_S512x512_0_0)) (View.ld (Val := Elt Ideal) (e' := .f32) g (Rect.unit ![0, 0, 0] ![1, 1, 512] inb_S1x1x2048_S1x1x512_0_0_0))⟩]

theorem out_eq (c : Dev nD) (t : Fin cfg0.N) : outsAt0 m c t
    = outTile (stored (grid0.coords t) (iblk m c 0 t) (iblk m c 1 t) (iblk m c 2 t) (iblk m c 3 t) (iblk m c 4 t)
        (X0_5 m c t) (X0_6 m c t) (X0_7 m c t) (iblk m c 10 t) (iblk m c 11 t) (iblk m c 12 t)) (iblk m c 8 t) (iblk m c 9 t) (iblk m c 13 t) := by
  unfold outsAt0 out0_A_14
  frame_open
  simp only [View.readCov_eq_canon']
  frame_out
  all_goals rfl

/-- The merged row's entry from a point's rows, gates and weights. -/
def mergedAt (f : Fin 512 → EReal) (a : Fin 1024 → EReal) (cm : Fin 512 → EReal) (g0 g1 g2 : EReal) (wf : Fin 512 → EReal)
    (wm : Fin 1024 → EReal) (wc : Fin 512 → EReal) : EReal :=
  g0 * (∑ k : Fin 512, f k * wf k) + g1 * (∑ k : Fin 1024, a k * wm k) + g2 * (∑ k : Fin 512, cm k * wc k)

theorem stored_at (i : grid0.Coords) (f fc : FVec Ideal S512x512 .bf16) (a ac : FVec Ideal S512x1024 .bf16)
    (cm : FVec Ideal S512x512 .bf16) (g0 g1 g2 : FVec Ideal S512x2048 .bf16) (wf : FVec Ideal S512x2048 .bf16)
    (wm : FVec Ideal S1024x2048 .bf16) (wc : FVec Ideal S512x2048 .bf16) (y : S512x2048.Idx) :
    stored i f fc a ac cm g0 g1 g2 wf wm wc y
      = mergedAt (fun k => k0_pay3 (F := Ideal) i fc f (ix2 (y 0) k)) (fun k => k0_pay4 (F := Ideal) i ac a (ix2 (y 0) k))
          (fun k => cm (ix2 (y 0) k)) (g0 y) (g1 y) (g2 y) (fun k => wf (ix2 k (y 1))) (fun k => wm (ix2 k (y 1))) (fun k => wc (ix2 k (y 1))) := by
  have e : (Rect.unit (s := S512x2048) ![0, 0] ![512, 2048] inb_S512x2048_S512x2048_0_0).idx y = y := by
    funext a
    apply Fin.ext
    rw [Rect.idx_unit_val]
    fin_cases a <;> exact Nat.zero_add _
  unfold stored mergedAt
  rw [e]
  clear e
  canon_tiles x h
  case piece0 =>
    pointwise [k0_pay13, k0_pay11, k0_pay12]
    blk_point []
  case piece1 =>
    pointwise [k0_pay10, k0_pay8, k0_pay9]
    blk_point []
  case piece2 =>
    pointwise [k0_pay7]
    blk_point []
  case piece3 =>
    pointwise [k0_pay6, k0_pay5]
    blk_point []

theorem outTile_at (h : FVec Ideal S512x2048 .bf16) (x : FVec Ideal S512x2048 .f32) (g : FVec Ideal S1x1x2048 .f32)
    (wo : FVec Ideal S2048x2048 .bf16) (y : S512x2048.Idx) : outTile h x g wo y
      = x y + g (ix3 (0 : Fin 1) (0 : Fin 1) (y 1)) * ∑ k : Fin 2048, h (ix2 (y 0) k) * wo (ix2 k (y 1)) := by
  unfold outTile
  canon_tiles z hz
  case piece0 =>
    pointwise [k0_pay2]
    blk_point []
  case piece1 =>
    pointwise [k0_pay1, k0_pay16]
    blk_point []
  case piece2 =>
    pointwise [k0_pay15]
    blk_point []
  case piece3 =>
    pointwise [k0_pay14]
    blk_point []

end Cert.Kernel4Ideal.Mix

end
-- ==== Proof.MixValue.lean ====
module

public import proofs.«01_k».proof.Proof.MixScratch

@[expose] public section

set_option maxRecDepth 16384

noncomputable section

open Idealize.ShloMosaic Idealize.ShloMosaic.TcCoe Idealize.SL.Sem
open Idealize.ShloMosaic.Pipeline (Dat)

namespace Cert.Kernel4Ideal.Mix

open Cert.Kernel4Ideal Cert.Kernel4Ideal.Gen

/-- Row `r` of an array held in two parts, the first of 8192 rows and the second of 512. -/
def stacked {n : ℕ} (u : Fin 8192 → Fin n → EReal) (v : Fin 512 → Fin n → EReal) (r : Fin 8704) (k : Fin n) : EReal :=
  if h : r.val < 8192 then u ⟨r.val, h⟩ k else v ⟨r.val - 8192, by omega⟩ k

/-- The gate of the first layer's mixing for row `r`, entry `k`. -/
def modGate (mod : FVec Ideal S2x8x12288 .f32) (r : Fin 8704) (k : Fin 2048) : EReal :=
  mod (ix3 (0 : Fin 2) ⟨r.val / 4096, by omega⟩ ⟨4096 + k.val, by omega⟩)

/-- The merged entry of row `r` at column `k`: each branch's projection times its gate, added. -/
def mergeAt (f : FVec Ideal S8192x512 .bf16) (fc : FVec Ideal S512x512 .bf16) (a : FVec Ideal S8192x1024 .bf16)
    (ac : FVec Ideal S512x1024 .bf16) (cm : FVec Ideal S8704x512 .bf16) (p : FVec Ideal S8704x9216 .bf16)
    (wf : FVec Ideal S2x512x2048 .f32) (wm : FVec Ideal S2x1024x2048 .f32) (wc : FVec Ideal S2x512x2048 .f32) (r : Fin 8704) (k : Fin 2048) : EReal :=
  mergedAt (stacked (fun r k => f (ix2 r k)) (fun r k => fc (ix2 r k)) r) (stacked (fun r k => a (ix2 r k)) (fun r k => ac (ix2 r k)) r)
    (fun q => cm (ix2 r q)) (p (ix2 r ⟨k.val, by omega⟩)) (p (ix2 r ⟨2048 + k.val, by omega⟩)) (p (ix2 r ⟨4096 + k.val, by omega⟩))
    (fun q => wf (ix3 (0 : Fin 2) q k)) (fun q => wm (ix3 (0 : Fin 2) q k)) (fun q => wc (ix3 (0 : Fin 2) q k))

/-- The first layer's rows after mixing, at row `r`, column `j`. -/
def mixAt (f : FVec Ideal S8192x512 .bf16) (fc : FVec Ideal S512x512 .bf16) (a : FVec Ideal S8192x1024 .bf16)
    (ac : FVec Ideal S512x1024 .bf16) (cm : FVec Ideal S8704x512 .bf16) (p : FVec Ideal S8704x9216 .bf16) (x : FVec Ideal S8704x2048 .f32)
    (mod : FVec Ideal S2x8x12288 .f32) (wf : FVec Ideal S2x512x2048 .f32) (wm : FVec Ideal S2x1024x2048 .f32) (wc : FVec Ideal S2x512x2048 .f32)
    (wo : FVec Ideal S2x2048x2048 .f32) (r : Fin 8704) (j : Fin 2048) : EReal :=
  x (ix2 r j) + modGate mod r j * ∑ k : Fin 2048, mergeAt f fc a ac cm p wf wm wc r k * wo (ix3 (0 : Fin 2) k j)

/-- The same as an array. -/
def mix (f : FVec Ideal S8192x512 .bf16) (fc : FVec Ideal S512x512 .bf16) (a : FVec Ideal S8192x1024 .bf16)
    (ac : FVec Ideal S512x1024 .bf16) (cm : FVec Ideal S8704x512 .bf16) (p : FVec Ideal S8704x9216 .bf16) (x : FVec Ideal S8704x2048 .f32)
    (mod : FVec Ideal S2x8x12288 .f32) (wf : FVec Ideal S2x512x2048 .f32) (wm : FVec Ideal S2x1024x2048 .f32) (wc : FVec Ideal S2x512x2048 .f32)
    (wo : FVec Ideal S2x2048x2048 .f32) : FVec Ideal S8704x2048 .f32 := fun y => mixAt f fc a ac cm p x mod wf wm wc wo (y 0) (y 1)

variable (m : (ℓ : Loc nD τ sig) → Buf (Elt Ideal) ℓ)

theorem idxA : ∀ t : Fin cfg0.N, win0_0.index t = ![min t.val 15, 0] ∧ win0_1.index t = ![0, 0] ∧ win0_2.index t = ![min t.val 15, 0]
    ∧ win0_3.index t = ![0, 0] ∧ win0_4.index t = ![t.val, 0] ∧ win0_8.index t = ![t.val, 0] :=
  (by decide +kernel : ∀ t : Fin grid0.N, _)

theorem idxB : ∀ t : Fin cfg0.N, win0_5.index t = ![t.val, 0] ∧ win0_6.index t = ![t.val, 1] ∧ win0_7.index t = ![t.val, 2]
    ∧ win0_9.index t = ![t.val / 8 * 6 + 2, 0, 0] ∧ win0_14.index t = ![t.val, 0] ∧ (grid0.coords t 0).val = t.val :=
  (by decide +kernel : ∀ t : Fin grid0.N, _)

theorem idxC : ∀ t : Fin cfg0.N, win0_10.index t = ![0, 0] ∧ win0_11.index t = ![0, 0] ∧ win0_12.index t = ![0, 0]
    ∧ win0_13.index t = ![0, 0] :=
  (by decide +kernel : ∀ t : Fin grid0.N, _)

/-- The kernel's test of the last point, as a bit. -/
theorem last_bit : ∀ n : Fin 17, Scalar.cmpi CmpIPredicate.eq (BitVec.ofNat 32 (n : ℕ)) 16#32 = if (n : ℕ) = 16 then 1#1 else 0#1 := by
  decide

theorem pay3_eq (i : grid0.Coords) (u v : FVec Ideal S512x512 .bf16) : k0_pay3 (F := Ideal) i u v = if (i 0 : ℕ) = 16 then u else v := by
  show Scalar.select (Scalar.cmpi CmpIPredicate.eq (BitVec.ofNat 32 ((i 0 : Fin 17) : ℕ)) 16#32) u v = _
  rw [last_bit (i 0)]
  by_cases h : (i 0 : ℕ) = 16
  · rw [if_pos h, if_pos h]; rfl
  · rw [if_neg h, if_neg h]; rfl

theorem pay4_eq (i : grid0.Coords) (u v : FVec Ideal S512x1024 .bf16) : k0_pay4 (F := Ideal) i u v = if (i 0 : ℕ) = 16 then u else v := by
  show Scalar.select (Scalar.cmpi CmpIPredicate.eq (BitVec.ofNat 32 ((i 0 : Fin 17) : ℕ)) 16#32) u v = _
  rw [last_bit (i 0)]
  by_cases h : (i 0 : ℕ) = 16
  · rw [if_pos h, if_pos h]; rfl
  · rw [if_neg h, if_neg h]; rfl

theorem f_at (c : Dev nD) (t : Fin cfg0.N) (ht : t.val < 16) (q : Fin 512) (k : Fin 512) (r : Fin 8192) (h : r.val = t.val * 512 + q.val) :
    (iblk m c 0 t : FVec Ideal S512x512 .bf16) (ix2 q k) = (m ((c.tc : Thread nD τ).loc main_arg0) : FVec Ideal S8192x512 .bf16) (ix2 r k) := by
  blk_simp [iblk]
  entry_read
  pointwise
  blk_ext [(idxA t).1]

theorem fc_at (c : Dev nD) (t : Fin cfg0.N) (q : Fin 512) (k : Fin 512) :
    (iblk m c 1 t : FVec Ideal S512x512 .bf16) (ix2 q k) = (m ((c.tc : Thread nD τ).loc main_arg1) : FVec Ideal S512x512 .bf16) (ix2 q k) := by
  blk_simp [iblk]
  entry_read
  pointwise
  blk_ext [(idxA t).2.1]

theorem a_at (c : Dev nD) (t : Fin cfg0.N) (ht : t.val < 16) (q : Fin 512) (k : Fin 1024) (r : Fin 8192) (h : r.val = t.val * 512 + q.val) :
    (iblk m c 2 t : FVec Ideal S512x1024 .bf16) (ix2 q k) = (m ((c.tc : Thread nD τ).loc main_arg2) : FVec Ideal S8192x1024 .bf16) (ix2 r k) := by
  blk_simp [iblk]
  entry_read
  pointwise
  blk_ext [(idxA t).2.2.1]

theorem ac_at (c : Dev nD) (t : Fin cfg0.N) (q : Fin 512) (k : Fin 1024) :
    (iblk m c 3 t : FVec Ideal S512x1024 .bf16) (ix2 q k) = (m ((c.tc : Thread nD τ).loc main_arg3) : FVec Ideal S512x1024 .bf16) (ix2 q k) := by
  blk_simp [iblk]
  entry_read
  pointwise
  blk_ext [(idxA t).2.2.2.1]

theorem cm_at (c : Dev nD) (t : Fin cfg0.N) (q : Fin 512) (k : Fin 512) (r : Fin 8704) (h : r.val = t.val * 512 + q.val) :
    (iblk m c 4 t : FVec Ideal S512x512 .bf16) (ix2 q k) = (m ((c.tc : Thread nD τ).loc main_arg4) : FVec Ideal S8704x512 .bf16) (ix2 r k) := by
  blk_simp [iblk]
  entry_read
  pointwise
  blk_ext [(idxA t).2.2.2.2.1]

theorem x_at (c : Dev nD) (t : Fin cfg0.N) (q : Fin 512) (k : Fin 2048) (r : Fin 8704) (h : r.val = t.val * 512 + q.val) :
    (iblk m c 8 t : FVec Ideal S512x2048 .f32) (ix2 q k) = (m ((c.tc : Thread nD τ).loc main_arg6) : FVec Ideal S8704x2048 .f32) (ix2 r k) := by
  blk_simp [iblk]
  entry_read
  pointwise
  blk_ext [(idxA t).2.2.2.2.2]

theorem wf_at (c : Dev nD) (t : Fin cfg0.N) (q : Fin 512) (k : Fin 2048) :
    (iblk m c 10 t : FVec Ideal S512x2048 .bf16) (ix2 q k) = (m ((c.tc : Thread nD τ).loc main_arg8) : FVec Ideal S2x512x2048 .f32) (ix3 (0 : Fin 2) q k) := by
  blk_simp [iblk]
  entry_read
  pointwise
  blk_ext [(idxC t).1]

theorem wm_at (c : Dev nD) (t : Fin cfg0.N) (q : Fin 1024) (k : Fin 2048) :
    (iblk m c 11 t : FVec Ideal S1024x2048 .bf16) (ix2 q k) = (m ((c.tc : Thread nD τ).loc main_arg9) : FVec Ideal S2x1024x2048 .f32) (ix3 (0 : Fin 2) q k) := by
  blk_simp [iblk]
  entry_read
  pointwise
  blk_ext [(idxC t).2.1]

theorem wc_at (c : Dev nD) (t : Fin cfg0.N) (q : Fin 512) (k : Fin 2048) :
    (iblk m c 12 t : FVec Ideal S512x2048 .bf16) (ix2 q k) = (m ((c.tc : Thread nD τ).loc main_arg10) : FVec Ideal S2x512x2048 .f32) (ix3 (0 : Fin 2) q k) := by
  blk_simp [iblk]
  entry_read
  pointwise
  blk_ext [(idxC t).2.2.1]

theorem wo_at (c : Dev nD) (t : Fin cfg0.N) (q : Fin 2048) (k : Fin 2048) :
    (iblk m c 13 t : FVec Ideal S2048x2048 .bf16) (ix2 q k) = (m ((c.tc : Thread nD τ).loc main_arg11) : FVec Ideal S2x2048x2048 .f32) (ix3 (0 : Fin 2) q k) := by
  blk_simp [iblk]
  entry_read
  pointwise
  blk_ext [(idxC t).2.2.2]

theorem g0_at (c : Dev nD) (t : Fin cfg0.N) (q : Fin 512) (k : Fin 2048) (r : Fin 8704) (h : r.val = t.val * 512 + q.val) :
    (X0_5 m c t : FVec Ideal S512x2048 .bf16) (ix2 q k) = (m ((c.tc : Thread nD τ).loc main_arg5) : FVec Ideal S8704x9216 .bf16) (ix2 r ⟨k.val, by omega⟩) := by
  unfold X0_5 Pipeline.Window.fill
  rw [dif_pos (moved0_5 t _)]
  blk_simp [iblk]
  entry_read
  pointwise
  blk_ext [(idxB t).1]

theorem g1_at (c : Dev nD) (t : Fin cfg0.N) (q : Fin 512) (k : Fin 2048) (r : Fin 8704) (h : r.val = t.val * 512 + q.val) :
    (X0_6 m c t : FVec Ideal S512x2048 .bf16) (ix2 q k) = (m ((c.tc : Thread nD τ).loc main_arg5) : FVec Ideal S8704x9216 .bf16) (ix2 r ⟨2048 + k.val, by omega⟩) := by
  unfold X0_6 Pipeline.Window.fill
  rw [dif_pos (moved0_6 t _)]
  blk_simp [iblk]
  entry_read
  pointwise
  blk_ext [(idxB t).2.1]

theorem g2_at (c : Dev nD) (t : Fin cfg0.N) (q : Fin 512) (k : Fin 2048) (r : Fin 8704) (h : r.val = t.val * 512 + q.val) :
    (X0_7 m c t : FVec Ideal S512x2048 .bf16) (ix2 q k) = (m ((c.tc : Thread nD τ).loc main_arg5) : FVec Ideal S8704x9216 .bf16) (ix2 r ⟨4096 + k.val, by omega⟩) := by
  unfold X0_7 Pipeline.Window.fill
  rw [dif_pos (moved0_7 t _)]
  blk_simp [iblk]
  entry_read
  pointwise
  blk_ext [(idxB t).2.2.1]

theorem gate_at (c : Dev nD) (t : Fin cfg0.N) (k : Fin 2048) (r : Fin 8704) (h : r.val / 4096 = t.val / 8) :
    (iblk m c 9 t : FVec Ideal S1x1x2048 .f32) (ix3 (0 : Fin 1) (0 : Fin 1) k) = modGate (m ((c.tc : Thread nD τ).loc main_arg7)) r k := by
  unfold modGate
  blk_simp [iblk]
  entry_read
  pointwise
  blk_ext [(idxB t).2.2.2.1]

/-- The rows of the first branch that a point multiplies. -/
theorem fsel_at (c : Dev nD) (t : Fin cfg0.N) (q : Fin 512) (k : Fin 512) (r : Fin 8704) (h : r.val = t.val * 512 + q.val) :
    k0_pay3 (F := Ideal) (grid0.coords t) (iblk m c 1 t) (iblk m c 0 t) (ix2 q k)
      = stacked (fun r k => (m ((c.tc : Thread nD τ).loc main_arg0) : FVec Ideal S8192x512 .bf16) (ix2 r k)) (fun r k => (m ((c.tc : Thread nD τ).loc main_arg1) : FVec Ideal S512x512 .bf16) (ix2 r k)) r k := by
  have hN := lt_of_lt_of_eq t.isLt (show cfg0.N = 17 from N_0)
  have hq := q.isLt
  unfold stacked
  rw [pay3_eq, (idxB t).2.2.2.2.2]
  by_cases ht : t.val = 16
  · rw [if_pos ht, dif_neg (by omega), fc_at]
    exact congrArg (fun z : Fin 512 => (m ((c.tc : Thread nD τ).loc main_arg1) : FVec Ideal S512x512 .bf16) (ix2 z k)) (Fin.ext (by show q.val = r.val - 8192; omega))
  · rw [if_neg ht, dif_pos (by omega : r.val < 8192)]
    exact f_at m c t (by omega) q k _ h

/-- The rows of the second branch that a point multiplies. -/
theorem asel_at (c : Dev nD) (t : Fin cfg0.N) (q : Fin 512) (k : Fin 1024) (r : Fin 8704) (h : r.val = t.val * 512 + q.val) :
    k0_pay4 (F := Ideal) (grid0.coords t) (iblk m c 3 t) (iblk m c 2 t) (ix2 q k)
      = stacked (fun r k => (m ((c.tc : Thread nD τ).loc main_arg2) : FVec Ideal S8192x1024 .bf16) (ix2 r k)) (fun r k => (m ((c.tc : Thread nD τ).loc main_arg3) : FVec Ideal S512x1024 .bf16) (ix2 r k)) r k := by
  have hN := lt_of_lt_of_eq t.isLt (show cfg0.N = 17 from N_0)
  have hq := q.isLt
  unfold stacked
  rw [pay4_eq, (idxB t).2.2.2.2.2]
  by_cases ht : t.val = 16
  · rw [if_pos ht, dif_neg (by omega), ac_at]
    exact congrArg (fun z : Fin 512 => (m ((c.tc : Thread nD τ).loc main_arg3) : FVec Ideal S512x1024 .bf16) (ix2 z k)) (Fin.ext (by show q.val = r.val - 8192; omega))
  · rw [if_neg ht, dif_pos (by omega : r.val < 8192)]
    exact a_at m c t (by omega) q k _ h

/-- A merged row with equal parts. -/
theorem mergedAt_congr {f f' a a' cm cm' g0 g0' g1 g1' g2 g2' wf wf' wm wm' wc wc'} (h1 : f = f') (h2 : a = a') (h3 : cm = cm') (h4 : g0 = g0')
    (h5 : g1 = g1') (h6 : g2 = g2') (h7 : wf = wf') (h8 : wm = wm') (h9 : wc = wc') :
    mergedAt f a cm g0 g1 g2 wf wm wc = mergedAt f' a' cm' g0' g1' g2' wf' wm' wc' := by
  subst h1 h2 h3 h4 h5 h6 h7 h8 h9; rfl

/-- The merged rows that a point stores. -/
theorem stored_row (c : Dev nD) (t : Fin cfg0.N) (q : Fin 512) (k : Fin 2048) (r : Fin 8704) (h : r.val = t.val * 512 + q.val) :
    stored (grid0.coords t) (iblk m c 0 t) (iblk m c 1 t) (iblk m c 2 t) (iblk m c 3 t) (iblk m c 4 t)
        (X0_5 m c t) (X0_6 m c t) (X0_7 m c t) (iblk m c 10 t) (iblk m c 11 t) (iblk m c 12 t) (ix2 q k)
      = mergeAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) r k := by
  refine (stored_at _ _ _ _ _ _ _ _ _ _ _ _ _).trans ?_
  unfold mergeAt
  exact mergedAt_congr (funext fun k' => fsel_at m c t q k' r h) (funext fun k' => asel_at m c t q k' r h) (funext fun k' => cm_at m c t q k' r h)
    (g0_at m c t q k r h) (g1_at m c t q k r h) (g2_at m c t q k r h) (funext fun k' => wf_at m c t k' k) (funext fun k' => wm_at m c t k' k)
    (funext fun k' => wc_at m c t k' k)

theorem tile_at (c : Dev nD) (t : Fin cfg0.N) (y : S512x2048.Idx) (z : S8704x2048.Idx)
    (h0 : (z 0 : ℕ) = t.val * 512 + (y 0 : ℕ)) (h1 : (z 1 : ℕ) = (y 1 : ℕ)) :
    outsAt0 m c t y = mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) z := by
  have hN := lt_of_lt_of_eq t.isLt (show cfg0.N = 17 from N_0)
  obtain ⟨q, j, rfl⟩ : ∃ q j, y = ix2 q j := ⟨y 0, y 1, by funext a; fin_cases a <;> rfl⟩
  have ej : (z 1 : Fin 2048) = j := Fin.ext h1
  have hq := q.isLt
  have h0' : (z 0 : ℕ) = t.val * 512 + q.val := h0
  unfold mix mixAt
  rw [ej, out_eq]
  refine (outTile_at _ _ _ _ _).trans ?_
  refine congr (congrArg HAdd.hAdd (x_at m c t q j (z 0) h0')) ?_
  refine congr (congrArg HMul.hMul (gate_at m c t j (z 0) (by omega))) ?_
  exact Finset.sum_congr rfl fun k _ => congr (congrArg HMul.hMul (stored_row m c t q k (z 0) h0')) (wo_at m c t k j)

/-- The array the call returns is the first layer's rows after mixing. -/
theorem final (c : Dev nD) : (dats m 0 c).arrAt 14 cfg0.N = mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 14 _ (by decide +kernel) fun t hf y => ?_
  have hN := lt_of_lt_of_eq t.isLt (show cfg0.N = 17 from N_0)
  blk_simp
  rw [after0_14]
  refine tile_at m c t y _ ?_ ?_
  · blk_simp [(idxB t).2.2.2.2.1]
  · blk_simp [(idxB t).2.2.2.2.1]

end Cert.Kernel4Ideal.Mix

end
-- ==== Proof.MixRef.lean ====
module

public import proofs.«01_k».proof.Proof.MixValue
public import proofs.«01_k».proof.Proof.Gen.Reference4Ideal.Run
public import Idealize.ShloMosaic.Lib.Pointwise

@[expose] public section

set_option maxRecDepth 16384

noncomputable section

open Idealize.ShloMosaic Idealize.ShloMosaic.TcCoe Idealize.SL.Sem

namespace Cert.Reference4Ideal.Mix

open Cert.Reference4Ideal Cert.Reference4Ideal.Gen Cert.Kernel4Ideal.Mix

/-- The reference's merged rows of the latent stream. -/
def mergeR (f : FVec Ideal S8192x512 .bf16) (a : FVec Ideal S8192x1024 .bf16) (cm : FVec Ideal S8704x512 .bf16) (p : FVec Ideal S8704x9216 .bf16) (wf : FVec Ideal S2x512x2048 .f32) (wm : FVec Ideal S2x1024x2048 .f32) (wc : FVec Ideal S2x512x2048 .f32) : FVec Ideal S8192x2048 .f32 :=
  addf (addf (mulf (extractStridedSlice S8192x2048 ![0, 0] (extf .f32 (extractStridedSlice S8192x9216 ![0, 0] p slices_S8704x9216_S8192x9216_0_0) bitsLt_bf16_f32) slices_S8192x9216_S8192x2048_0_0) (Host.dotGeneral dot_S8192x512_S512x2048_S8192x2048_1_0_0_1_n_n none (extf .f32 f bitsLt_bf16_f32) (shapeCast _ (extractStridedSlice S1x512x2048 ![0, 0, 0] wf slices_S2x512x2048_S1x512x2048_0_0_0) shapeCasts_S1x512x2048_S512x2048))) (mulf (extractStridedSlice S8192x2048 ![0, 2048] (extf .f32 (extractStridedSlice S8192x9216 ![0, 0] p slices_S8704x9216_S8192x9216_0_0) bitsLt_bf16_f32) slices_S8192x9216_S8192x2048_0_2048) (Host.dotGeneral dot_S8192x1024_S1024x2048_S8192x2048_1_0_0_1_n_n none (extf .f32 a bitsLt_bf16_f32) (shapeCast _ (extractStridedSlice S1x1024x2048 ![0, 0, 0] wm slices_S2x1024x2048_S1x1024x2048_0_0_0) shapeCasts_S1x1024x2048_S1024x2048)))) (mulf (extractStridedSlice S8192x2048 ![0, 4096] (extf .f32 (extractStridedSlice S8192x9216 ![0, 0] p slices_S8704x9216_S8192x9216_0_0) bitsLt_bf16_f32) slices_S8192x9216_S8192x2048_0_4096) (Host.dotGeneral dot_S8192x512_S512x2048_S8192x2048_1_0_0_1_n_n none (extf .f32 (extractStridedSlice S8192x512 ![0, 0] cm slices_S8704x512_S8192x512_0_0) bitsLt_bf16_f32) (shapeCast _ (extractStridedSlice S1x512x2048 ![0, 0, 0] wc slices_S2x512x2048_S1x512x2048_0_0_0) shapeCasts_S1x512x2048_S512x2048)))

/-- The reference's merged rows of the context stream. -/
def mergecR (fc : FVec Ideal S512x512 .bf16) (ac : FVec Ideal S512x1024 .bf16) (cm : FVec Ideal S8704x512 .bf16) (p : FVec Ideal S8704x9216 .bf16) (wf : FVec Ideal S2x512x2048 .f32) (wm : FVec Ideal S2x1024x2048 .f32) (wc : FVec Ideal S2x512x2048 .f32) : FVec Ideal S512x2048 .f32 :=
  addf (addf (mulf (extractStridedSlice S512x2048 ![0, 0] (extf .f32 (extractStridedSlice S512x9216 ![8192, 0] p slices_S8704x9216_S512x9216_8192_0) bitsLt_bf16_f32) slices_S512x9216_S512x2048_0_0) (Host.dotGeneral dot_S512x512_S512x2048_S512x2048_1_0_0_1_n_n none (extf .f32 fc bitsLt_bf16_f32) (shapeCast _ (extractStridedSlice S1x512x2048 ![0, 0, 0] wf slices_S2x512x2048_S1x512x2048_0_0_0) shapeCasts_S1x512x2048_S512x2048))) (mulf (extractStridedSlice S512x2048 ![0, 2048] (extf .f32 (extractStridedSlice S512x9216 ![8192, 0] p slices_S8704x9216_S512x9216_8192_0) bitsLt_bf16_f32) slices_S512x9216_S512x2048_0_2048) (Host.dotGeneral dot_S512x1024_S1024x2048_S512x2048_1_0_0_1_n_n none (extf .f32 ac bitsLt_bf16_f32) (shapeCast _ (extractStridedSlice S1x1024x2048 ![0, 0, 0] wm slices_S2x1024x2048_S1x1024x2048_0_0_0) shapeCasts_S1x1024x2048_S1024x2048)))) (mulf (extractStridedSlice S512x2048 ![0, 4096] (extf .f32 (extractStridedSlice S512x9216 ![8192, 0] p slices_S8704x9216_S512x9216_8192_0) bitsLt_bf16_f32) slices_S512x9216_S512x2048_0_4096) (Host.dotGeneral dot_S512x512_S512x2048_S512x2048_1_0_0_1_n_n none (extf .f32 (extractStridedSlice S512x512 ![8192, 0] cm slices_S8704x512_S512x512_8192_0) bitsLt_bf16_f32) (shapeCast _ (extractStridedSlice S1x512x2048 ![0, 0, 0] wc slices_S2x512x2048_S1x512x2048_0_0_0) shapeCasts_S1x512x2048_S512x2048)))

/-- The reference's latent rows after mixing. -/
def latR (f : FVec Ideal S8192x512 .bf16) (a : FVec Ideal S8192x1024 .bf16) (cm : FVec Ideal S8704x512 .bf16) (p : FVec Ideal S8704x9216 .bf16) (x : FVec Ideal S8704x2048 .f32) (mod : FVec Ideal S2x8x12288 .f32) (wf : FVec Ideal S2x512x2048 .f32) (wm : FVec Ideal S2x1024x2048 .f32) (wc : FVec Ideal S2x512x2048 .f32) (wo : FVec Ideal S2x2048x2048 .f32) : FVec Ideal S8192x2048 .f32 :=
  shapeCast _ (addf (shapeCast _ (extractStridedSlice S8192x2048 ![0, 0] x slices_S8704x2048_S8192x2048_0_0) shapeCasts_S8192x2048_S2x4096x2048) (mulf (broadcastInDim S2x4096x2048 ![0, 1, 2] bcast_S2x1x2048_S2x4096x2048_0_1_2 (shapeCast _ (extractStridedSlice S2x1x1x2048 ![0, 2, 0, 0] (shapeCast _ (shapeCast _ (extractStridedSlice S1x2x12288 ![0, 0, 0] mod slices_S2x8x12288_S1x2x12288_0_0_0) shapeCasts_S1x2x12288_S2x12288) shapeCasts_S2x12288_S2x6x1x2048) slices_S2x6x1x2048_S2x1x1x2048_0_2_0_0) shapeCasts_S2x1x1x2048_S2x1x2048)) (shapeCast _ (Host.dotGeneral dot_S8192x2048_S2048x2048_S8192x2048_1_0_0_1_n_n none (mergeR f a cm p wf wm wc) (shapeCast _ (extractStridedSlice S1x2048x2048 ![0, 0, 0] wo slices_S2x2048x2048_S1x2048x2048_0_0_0) shapeCasts_S1x2048x2048_S2048x2048)) shapeCasts_S8192x2048_S2x4096x2048))) shapeCasts_S2x4096x2048_S8192x2048

/-- The reference's context rows after mixing. -/
def ctxR (fc : FVec Ideal S512x512 .bf16) (ac : FVec Ideal S512x1024 .bf16) (cm : FVec Ideal S8704x512 .bf16) (p : FVec Ideal S8704x9216 .bf16) (x : FVec Ideal S8704x2048 .f32) (mod : FVec Ideal S2x8x12288 .f32) (wf : FVec Ideal S2x512x2048 .f32) (wm : FVec Ideal S2x1024x2048 .f32) (wc : FVec Ideal S2x512x2048 .f32) (wo : FVec Ideal S2x2048x2048 .f32) : FVec Ideal S512x2048 .f32 :=
  shapeCast _ (addf (shapeCast _ (extractStridedSlice S512x2048 ![8192, 0] x slices_S8704x2048_S512x2048_8192_0) shapeCasts_S512x2048_S2x256x2048) (mulf (broadcastInDim S2x256x2048 ![0, 1, 2] bcast_S1x1x2048_S2x256x2048_0_1_2 (broadcastInDim S1x1x2048 ![2] bcast_S2048_S1x1x2048_2 (shapeCast _ (extractStridedSlice S1x2048 ![2, 0] (shapeCast _ (shapeCast _ (extractStridedSlice S1x1x12288 ![0, 2, 0] mod slices_S2x8x12288_S1x1x12288_0_2_0) shapeCasts_S1x1x12288_S12288) shapeCasts_S12288_S6x2048) slices_S6x2048_S1x2048_2_0) shapeCasts_S1x2048_S2048))) (shapeCast _ (Host.dotGeneral dot_S512x2048_S2048x2048_S512x2048_1_0_0_1_n_n none (mergecR fc ac cm p wf wm wc) (shapeCast _ (extractStridedSlice S1x2048x2048 ![0, 0, 0] wo slices_S2x2048x2048_S1x2048x2048_0_0_0) shapeCasts_S1x2048x2048_S2048x2048)) shapeCasts_S512x2048_S2x256x2048))) shapeCasts_S2x256x2048_S512x2048

/-- The reference's result. -/
def outR (f : FVec Ideal S8192x512 .bf16) (fc : FVec Ideal S512x512 .bf16) (a : FVec Ideal S8192x1024 .bf16) (ac : FVec Ideal S512x1024 .bf16) (cm : FVec Ideal S8704x512 .bf16) (p : FVec Ideal S8704x9216 .bf16) (x : FVec Ideal S8704x2048 .f32) (mod : FVec Ideal S2x8x12288 .f32) (wf : FVec Ideal S2x512x2048 .f32) (wm : FVec Ideal S2x1024x2048 .f32) (wc : FVec Ideal S2x512x2048 .f32) (wo : FVec Ideal S2x2048x2048 .f32) : FVec Ideal S8704x2048 .f32 :=
  concatenate S8704x2048 0 [⟨S8192x2048, latR f a cm p x mod wf wm wc wo⟩, ⟨S512x2048, ctxR fc ac cm p x mod wf wm wc wo⟩] concatenates_S8192x2048_S512x2048_S8704x2048_d0

theorem mergeR_at (f : FVec Ideal S8192x512 .bf16) (fc : FVec Ideal S512x512 .bf16) (a : FVec Ideal S8192x1024 .bf16) (ac : FVec Ideal S512x1024 .bf16) (cm : FVec Ideal S8704x512 .bf16) (p : FVec Ideal S8704x9216 .bf16) (wf : FVec Ideal S2x512x2048 .f32) (wm : FVec Ideal S2x1024x2048 .f32) (wc : FVec Ideal S2x512x2048 .f32) (n : Fin 8192) (k : Fin 2048) (r : Fin 8704) (h : r.val = n.val) :
    mergeR f a cm p wf wm wc (ix2 n k) = mergeAt f fc a ac cm p wf wm wc r k := by
  have hn := n.isLt
  have e : (⟨r.val, by omega⟩ : Fin 8192) = n := Fin.ext h
  unfold mergeAt mergedAt stacked
  simp only [dif_pos (by omega : r.val < 8192), e]
  pointwise [mergeR]
  blk_point []

theorem mergecR_at (f : FVec Ideal S8192x512 .bf16) (fc : FVec Ideal S512x512 .bf16) (a : FVec Ideal S8192x1024 .bf16) (ac : FVec Ideal S512x1024 .bf16) (cm : FVec Ideal S8704x512 .bf16) (p : FVec Ideal S8704x9216 .bf16) (wf : FVec Ideal S2x512x2048 .f32) (wm : FVec Ideal S2x1024x2048 .f32) (wc : FVec Ideal S2x512x2048 .f32) (n : Fin 512) (k : Fin 2048) (r : Fin 8704) (h : r.val = 8192 + n.val) :
    mergecR fc ac cm p wf wm wc (ix2 n k) = mergeAt f fc a ac cm p wf wm wc r k := by
  have hn := n.isLt
  have e : (⟨r.val - 8192, by omega⟩ : Fin 512) = n := Fin.ext (by show r.val - 8192 = n.val; omega)
  unfold mergeAt mergedAt stacked
  simp only [dif_neg (by omega : ¬ r.val < 8192), e]
  pointwise [mergecR]
  blk_point []

theorem latR_at (f : FVec Ideal S8192x512 .bf16) (fc : FVec Ideal S512x512 .bf16) (a : FVec Ideal S8192x1024 .bf16) (ac : FVec Ideal S512x1024 .bf16) (cm : FVec Ideal S8704x512 .bf16) (p : FVec Ideal S8704x9216 .bf16) (x : FVec Ideal S8704x2048 .f32) (mod : FVec Ideal S2x8x12288 .f32) (wf : FVec Ideal S2x512x2048 .f32) (wm : FVec Ideal S2x1024x2048 .f32) (wc : FVec Ideal S2x512x2048 .f32) (wo : FVec Ideal S2x2048x2048 .f32) (n : Fin 8192) (j : Fin 2048) (r : Fin 8704) (h : r.val = n.val) :
    latR f a cm p x mod wf wm wc wo (ix2 n j) = mixAt f fc a ac cm p x mod wf wm wc wo r j := by
  unfold mixAt modGate
  pointwise [latR]
  simp only [← mergeR_at f fc a ac cm p wf wm wc n _ r h]
  blk_point []

theorem ctxR_at (f : FVec Ideal S8192x512 .bf16) (fc : FVec Ideal S512x512 .bf16) (a : FVec Ideal S8192x1024 .bf16) (ac : FVec Ideal S512x1024 .bf16) (cm : FVec Ideal S8704x512 .bf16) (p : FVec Ideal S8704x9216 .bf16) (x : FVec Ideal S8704x2048 .f32) (mod : FVec Ideal S2x8x12288 .f32) (wf : FVec Ideal S2x512x2048 .f32) (wm : FVec Ideal S2x1024x2048 .f32) (wc : FVec Ideal S2x512x2048 .f32) (wo : FVec Ideal S2x2048x2048 .f32) (n : Fin 512) (j : Fin 2048) (r : Fin 8704) (h : r.val = 8192 + n.val) :
    ctxR fc ac cm p x mod wf wm wc wo (ix2 n j) = mixAt f fc a ac cm p x mod wf wm wc wo r j := by
  unfold mixAt modGate
  pointwise [ctxR]
  simp only [← mergecR_at f fc a ac cm p wf wm wc n _ r h]
  blk_point []

theorem outR_eq (f : FVec Ideal S8192x512 .bf16) (fc : FVec Ideal S512x512 .bf16) (a : FVec Ideal S8192x1024 .bf16) (ac : FVec Ideal S512x1024 .bf16) (cm : FVec Ideal S8704x512 .bf16) (p : FVec Ideal S8704x9216 .bf16) (x : FVec Ideal S8704x2048 .f32) (mod : FVec Ideal S2x8x12288 .f32) (wf : FVec Ideal S2x512x2048 .f32) (wm : FVec Ideal S2x1024x2048 .f32) (wc : FVec Ideal S2x512x2048 .f32) (wo : FVec Ideal S2x2048x2048 .f32) :
    outR f fc a ac cm p x mod wf wm wc wo = mix f fc a ac cm p x mod wf wm wc wo := by
  funext y
  obtain ⟨r, j, rfl⟩ : ∃ r j, y = ix2 r j := ⟨y 0, y 1, by funext a; fin_cases a <;> rfl⟩
  show _ = mixAt _ _ _ _ _ _ _ _ _ _ _ _ r j
  pointwise [outR]
  split_ifs with hy
  · exact latR_at _ _ _ _ _ _ _ _ _ _ _ _ _ _ _ rfl
  · refine ctxR_at _ _ _ _ _ _ _ _ _ _ _ _ _ _ _ ?_
    show r.val = 8192 + (r.val - 8192)
    have h' : ¬ r.val < 8192 := hy
    omega
  · exact absurd rfl ‹_›

/-- The array the reference's program writes is `outR` of its arguments. -/
theorem res_eq (m : (ℓ : Loc nD τ sig) → Buf (Elt Ideal) ℓ) (c : Dev nD) :
    Value.res_main_v77 m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

/-- `mix` respects equality of its arguments. -/
theorem mix_congr {f f' fc fc' a a' ac ac' cm cm' p p' x x' mod mod' wf wf' wm wm' wc wc' wo wo'} (h0 : f = f') (h1 : fc = fc') (h2 : a = a') (h3 : ac = ac') (h4 : cm = cm') (h5 : p = p') (h6 : x = x') (h7 : mod = mod') (h8 : wf = wf') (h9 : wm = wm') (h10 : wc = wc') (h11 : wo = wo') :
    mix f fc a ac cm p x mod wf wm wc wo = mix f' fc' a' ac' cm' p' x' mod' wf' wm' wc' wo' := by
  subst h0 h1 h2 h3 h4 h5 h6 h7 h8 h9 h10 h11; rfl

end Cert.Reference4Ideal.Mix

end
-- ==== Proof.MixPair.lean ====
module

public import proofs.«01_k».proof.Defs
public import proofs.«01_k».proof.Proof.MixRef
public import proofs.«01_k».proof.Proof.Gen.Reference4Ideal.Run
public import Idealize.ShloMosaic.Adequacy
public import Idealize.ShloMosaic.Init
public import Idealize.ShloMosaic.Lib.Tactic.ValueTie

@[expose] public section

set_option maxRecDepth 16384

noncomputable section

open Idealize.ShloMosaic Idealize.ShloMosaic.TcCoe Idealize.SL.Sem

namespace Cert.Proof

/-- The first layer's mixing: the two programs end with equal results. -/
theorem mix_pair : algebraic_Kernel4Ideal_Reference4Ideal := by
  pair_intro
  · run_from Cert.Kernel4Ideal.Gen.run_main m g
  · run_from Cert.Reference4Ideal.Value.run m' g'
    obtain ⟨a0, a1, a2, a3, a4, a5, a6, a7, a8, a9, a10, a11⟩ := hagree c
    exact (Cert.Reference4Ideal.Mix.res_eq m' c).trans ((Cert.Reference4Ideal.Mix.outR_eq _ _ _ _ _ _ _ _ _ _ _ _).trans
      ((Cert.Reference4Ideal.Mix.mix_congr a0 a1 a2 a3 a4 a5 a6 a7 a8 a9 a10 a11).trans (Cert.Kernel4Ideal.Mix.final m c).symm))

end Cert.Proof

end
-- ==== Proof.AttMath.lean ====
module

public import Idealize.ShloMosaic.PureOps.Ideal
public import Mathlib.Tactic.FieldSimp

@[expose] public section

noncomputable section

open Idealize.ShloMosaic
open scoped BigOperators

namespace Cert.Att

/-- The largest of finitely many values, from minus infinity on. -/
def top {n : ℕ} (f : Fin n → EReal) : EReal := Finset.univ.fold max ⊥ f

/-- A softmax-weighted sum in which each weight is divided by the sum of the weights. -/
def softAt {n : ℕ} (s v : Fin n → EReal) : EReal :=
  ∑ k, v k * Ideal.div (Ideal.exp (s k - top s)) (∑ j, Ideal.exp (s j - top s))

/-- A weighted sum with weights to the base two, divided at the end by the sum of the weights. -/
def lateAt {n : ℕ} (s v o : Fin n → EReal) : EReal :=
  Ideal.div (∑ k, Ideal.exp2 (s k - top s) * v k) (∑ k, Ideal.exp2 (s k - top s) * o k)

/-- The largest of finitely many real numbers, of which there is at least one, is a real number. -/
theorem top_real {n : ℕ} [NeZero n] (s : Fin n → ℝ) : ∃ M : ℝ, top (fun k => (s k : EReal)) = (M : EReal) := by
  have h1 : top (fun k => (s k : EReal)) < ⊤ :=
    (Finset.fold_max_lt _).2 ⟨bot_lt_top, fun k _ => EReal.coe_lt_top _⟩
  have h2 : ((s 0 : ℝ) : EReal) ≤ top (fun k => (s k : EReal)) :=
    (Finset.le_fold_max _).2 (Or.inr ⟨0, Finset.mem_univ _, le_rfl⟩)
  have h3 : top (fun k => (s k : EReal)) ≠ ⊥ := fun h => by
    rw [h] at h2
    exact absurd h2 (not_le.2 (EReal.bot_lt_coe _))
  exact ⟨_, (EReal.coe_toReal h1.ne h3).symm⟩

/-- A sum of real numbers, as extended reals. -/
theorem coe_sum {n : ℕ} (f : Fin n → ℝ) : ∑ k, (f k : EReal) = ((∑ k, f k : ℝ) : EReal) := by
  have h : ∀ t : Finset (Fin n), ∑ k ∈ t, (f k : EReal) = ((∑ k ∈ t, f k : ℝ) : EReal) := fun t => by
    induction t using Finset.induction_on with
    | empty => simp
    | insert a t ha ih => rw [Finset.sum_insert ha, Finset.sum_insert ha, ih, EReal.coe_add]
  exact h _

/-- A sum times a nonnegative real number is the sum of the products. -/
theorem sum_mul_real {n : ℕ} (f : Fin n → EReal) (c : ℝ) (hc : 0 ≤ c) : (∑ k, f k) * (c : EReal) = ∑ k, f k * (c : EReal) := by
  have h : ∀ t : Finset (Fin n), (∑ k ∈ t, f k) * (c : EReal) = ∑ k ∈ t, f k * (c : EReal) := fun t => by
    induction t using Finset.induction_on with
    | empty => simp
    | insert a t ha ih =>
      rw [Finset.sum_insert ha, Finset.sum_insert ha,
        EReal.right_distrib_of_nonneg_of_ne_top (EReal.coe_nonneg.2 hc) (EReal.coe_ne_top _), ih]
  exact h _

/-- Division by a real number other than zero. -/
theorem div_real (x : EReal) (z : ℝ) (hz : z ≠ 0) : Ideal.div x (z : EReal) = x * ((z⁻¹ : ℝ) : EReal) := by
  unfold Ideal.div
  rw [if_neg (by exact_mod_cast hz), EReal.coe_inv]

/-- A weight of a softmax is the same whichever number is subtracted from the scores. -/
theorem shift {n : ℕ} (s : Fin n → ℝ) (c : ℝ) (k : Fin n) :
    Real.exp (s k - c) * (∑ j, Real.exp (s j - c))⁻¹ = Real.exp (s k) * (∑ j, Real.exp (s j))⁻¹ := by
  have e : ∀ j, Real.exp (s j - c) = Real.exp (s j) * (Real.exp c)⁻¹ := fun j => by rw [Real.exp_sub, div_eq_mul_inv]
  have hc := (Real.exp_pos c).ne'
  simp only [e, ← Finset.sum_mul, mul_inv, inv_inv]
  field_simp

/-- The sum of the weights is positive. -/
theorem sum_exp_pos {n : ℕ} [NeZero n] (s : Fin n → ℝ) (c : ℝ) : 0 < ∑ j, Real.exp (s j - c) :=
  Finset.sum_pos (fun _ _ => Real.exp_pos _) Finset.univ_nonempty

/-- The softmax-weighted sum of real scores. -/
theorem softAt_real {n : ℕ} [NeZero n] (s : Fin n → ℝ) (v : Fin n → EReal) :
    softAt (fun k => (s k : EReal)) v = ∑ k, v k * ((Real.exp (s k) * (∑ j, Real.exp (s j))⁻¹ : ℝ) : EReal) := by
  obtain ⟨M, hM⟩ := top_real s
  unfold softAt
  rw [hM]
  have e : ∀ k, Ideal.exp ((s k : EReal) - (M : EReal)) = ((Real.exp (s k - M) : ℝ) : EReal) := fun k => by
    rw [← EReal.coe_sub]; rfl
  simp only [e, coe_sum, div_real _ _ (sum_exp_pos s M).ne', ← EReal.coe_mul, shift]

/-- The same sum, from scores divided by `log 2`, with weights to the base two and the division at the end. -/
theorem lateAt_real {n : ℕ} [NeZero n] (s : Fin n → ℝ) (v o : Fin n → EReal) (ho : ∀ k, o k = 1) :
    lateAt (fun k => ((s k / Real.log 2 : ℝ) : EReal)) v o = ∑ k, v k * ((Real.exp (s k) * (∑ j, Real.exp (s j))⁻¹ : ℝ) : EReal) := by
  obtain ⟨M, hM⟩ := top_real fun k => s k / Real.log 2
  unfold lateAt
  rw [hM]
  have hl : Real.log 2 ≠ 0 := (Real.log_pos one_lt_two).ne'
  have e : ∀ k, Ideal.exp2 (((s k / Real.log 2 : ℝ) : EReal) - (M : EReal)) = ((Real.exp (s k - M * Real.log 2) : ℝ) : EReal) := fun k => by
    rw [← EReal.coe_sub]
    show ((Real.rpow 2 _ : ℝ) : EReal) = _
    congr 1
    show (2 : ℝ) ^ (s k / Real.log 2 - M) = _
    rw [Real.rpow_def_of_pos two_pos]
    congr 1
    field_simp
  simp only [e, ho, mul_one, coe_sum]
  have hz := sum_exp_pos s (M * Real.log 2)
  rw [div_real _ _ hz.ne', sum_mul_real _ _ (inv_nonneg.2 hz.le)]
  refine Finset.sum_congr rfl fun k _ => ?_
  rw [mul_comm _ (v k), mul_assoc, ← EReal.coe_mul, shift]

/-- A score of 192 real products, computed from the queries divided beforehand and rows padded with zeros. -/
theorem late_score (q k : Fin 192 → ℝ) (r l : ℝ) (hr : r ≠ 0) (hl : l ≠ 0) (qp kp : Fin 256 → EReal)
    (hq : ∀ c : Fin 192, qp (Fin.castAdd 64 c) = Ideal.div (q c : EReal) ((r * l : ℝ) : EReal)) (hq' : ∀ c : Fin 64, qp (Fin.natAdd 192 c) = 0)
    (hk : ∀ c : Fin 192, kp (Fin.castAdd 64 c) = (k c : EReal)) :
    ∑ c, qp c * kp c = (((∑ c, q c * k c) / r / l : ℝ) : EReal) := by
  refine (Fin.sum_univ_add (a := 192) (b := 64) fun c => qp c * kp c).trans ?_
  simp only [hq, hq', hk, zero_mul, Finset.sum_const_zero, add_zero, div_real _ _ (mul_ne_zero hr hl), ← EReal.coe_mul, coe_sum]
  congr 1
  rw [div_div, Finset.sum_div]
  refine Finset.sum_congr rfl fun c _ => ?_
  rw [mul_right_comm, ← div_eq_mul_inv]

/-- A score of 192 real products divided by a real number. -/
theorem soft_score (q k : Fin 192 → ℝ) (r : ℝ) (hr : r ≠ 0) :
    Ideal.div (∑ c, (q c : EReal) * (k c : EReal)) (r : EReal) = (((∑ c, q c * k c) / r : ℝ) : EReal) := by
  simp only [← EReal.coe_mul, coe_sum, div_real _ _ hr, div_eq_mul_inv]

/-- A value is a real number when its absolute value is below plus infinity. -/
theorem real_of_abs {x : EReal} (h : max x (-x) < ⊤) : ∃ r : ℝ, x = (r : EReal) := by
  have h1 : x ≠ ⊤ := fun e => by rw [e] at h; exact absurd (lt_of_le_of_lt (le_max_left _ _) h) (lt_irrefl _)
  have h2 : x ≠ ⊥ := fun e => by rw [e] at h; exact absurd (lt_of_le_of_lt (le_max_right _ _) h) (lt_irrefl _)
  exact ⟨x.toReal, (EReal.coe_toReal h1 h2).symm⟩

end Cert.Att

end
-- ==== Proof.AttRef.lean ====
module

public import proofs.«01_k».proof.Proof.AttMath
public import proofs.«01_k».proof.Proof.Gen.Reference5Ideal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Reference5Ideal.Att

open Cert.Reference5Ideal Cert.Reference5Ideal.Gen Cert.Att

/-- The reference's scores. -/
def scR (q : FVec Ideal S8704x8x192 .f32) (k : FVec Ideal S2x4352x8x192 .f32) : FVec Ideal S2x8x4096x4352 .f32 :=
  Host.divf (Host.dotGeneral dot_S2x4096x8x192_S2x4352x8x192_S2x8x4096x4352_3_3_1_1_02_02 none (shapeCast _ (extractStridedSlice S8192x8x192 ![0, 0, 0] q slices_S8704x8x192_S8192x8x192_0_0_0) shapeCasts_S8192x8x192_S2x4096x8x192) k) (broadcastInDim S2x8x4096x4352 ![] bcast_S_S2x8x4096x4352 (Host.sqrt (constant S_ .f32 0x43400000#32)))

/-- The reference's largest score of each row, from minus infinity on. -/
def mxR (s : FVec Ideal S2x8x4096x4352 .f32) : FVec Ideal S2x8x4096 .f32 :=
  Host.reduce FloatOps.maximumf s (constant S_ .f32 0xFF800000#32) reducesTo_S2x8x4096x4352_S2x8x4096_d3 h_S_

/-- The reference's exponentials of the scores less each row's largest. -/
def exR (s : FVec Ideal S2x8x4096x4352 .f32) (m : FVec Ideal S2x8x4096 .f32) : FVec Ideal S2x8x4096x4352 .f32 :=
  Host.exp (subf s (broadcastInDim S2x8x4096x4352 ![0, 1, 2, 3] bcast_S2x8x4096x1_S2x8x4096x4352_0_1_2_3 (broadcastInDim S2x8x4096x1 ![0, 1, 2] bcast_S2x8x4096_S2x8x4096x1_0_1_2 (maximumf (broadcastInDim S2x8x4096 ![] bcast_S_S2x8x4096 (constant S_ .f32 0xFF800000#32)) m))))

/-- The reference's weights. -/
def wtR (e : FVec Ideal S2x8x4096x4352 .f32) : FVec Ideal S2x8x4096x4352 .f32 :=
  Host.divf e (broadcastInDim S2x8x4096x4352 ![0, 1, 2, 3] bcast_S2x8x4096x1_S2x8x4096x4352_0_1_2_3 (broadcastInDim S2x8x4096x1 ![0, 1, 2] bcast_S2x8x4096_S2x8x4096x1_0_1_2 (Host.reduceAdd e (constant S_ .f32 0x00000000#32) reducesTo_S2x8x4096x4352_S2x8x4096_d3 h_S_)))

/-- The reference's attention. -/
def attR (q : FVec Ideal S8704x8x192 .f32) (k : FVec Ideal S2x4352x8x192 .f32) (v : FVec Ideal S2x4352x8x128 .f32) : FVec Ideal S8192x1024 .bf16 :=
  truncf .bf16 (shapeCast _ (transpose S2x4096x8x128 [0, 3, 1, 2] (Host.dotGeneral dot_S2x4352x8x128_S2x8x4096x4352_S2x8x128x4096_1_3_3_2_02_01 none v (wtR (exR (scR q k) (mxR (scR q k))))) transposes_S2x8x128x4096_S2x4096x8x128_0_3_1_2) shapeCasts_S2x4096x8x128_S8192x1024) bitsLt_bf16_f32

/-- The reference's projection of the channel columns, its rows split by parity. -/
def chanR (p : FVec Ideal S8704x9216 .bf16) (w : FVec Ideal S512x1024 .bf16) : FVec Ideal S2x4352x1024 .bf16 :=
  truncf .bf16 (shapeCast _ (transpose S2x4352x2x512 [2, 0, 1, 3] (shapeCast _ (Host.dotGeneral dot_S8704x512_S512x1024_S8704x1024_1_0_0_1_n_n none (extf .f32 (extractStridedSlice S8704x512 ![0, 6144] p slices_S8704x9216_S8704x512_0_6144) bitsLt_bf16_f32) (extf .f32 w bitsLt_bf16_f32)) shapeCasts_S8704x1024_S4352x2x2x512) transposes_S4352x2x2x512_S2x4352x2x512_2_0_1_3) shapeCasts_S2x4352x2x512_S2x4352x1024) bitsLt_bf16_f32

/-- The pattern of minus infinity. -/
theorem neg_inf : Ideal.ofBits .f32 0xFF800000#32 = ⊥ := by simp [Ideal.ofBits, Ideal.ieee]

theorem scR_at (q : FVec Ideal S8704x8x192 .f32) (k : FVec Ideal S2x4352x8x192 .f32) (b : Fin 2) (h : Fin 8) (i : Fin 4096) (j : Fin 4352) (r : Fin 8704) (hr : r.val = b.val * 4096 + i.val) :
    scR q k (ix4 b h i j) = Ideal.div (∑ d : Fin 192, q (ix3 r h d) * k (ix4 b j h d)) (Ideal.sqrt (Ideal.ofBits .f32 0x43400000#32)) := by
  pointwise [scR]
  blk_point []

theorem mxR_at (s : FVec Ideal S2x8x4096x4352 .f32) (b : Fin 2) (h : Fin 8) (i : Fin 4096) : mxR s (ix3 b h i) = top fun j => s (ix4 b h i j) := by
  unfold top
  pointwise [mxR]
  rw [neg_inf]

theorem exR_at (s : FVec Ideal S2x8x4096x4352 .f32) (m : FVec Ideal S2x8x4096 .f32) (b : Fin 2) (h : Fin 8) (i : Fin 4096) (j : Fin 4352) :
    exR s m (ix4 b h i j) = Ideal.exp (s (ix4 b h i j) - m (ix3 b h i)) := by
  pointwise [exR]
  rw [neg_inf, max_eq_right bot_le]

theorem wtR_at (e : FVec Ideal S2x8x4096x4352 .f32) (b : Fin 2) (h : Fin 8) (i : Fin 4096) (j : Fin 4352) :
    wtR e (ix4 b h i j) = Ideal.div (e (ix4 b h i j)) (∑ j, e (ix4 b h i j)) := by
  pointwise [wtR]

theorem attR_at (q : FVec Ideal S8704x8x192 .f32) (k : FVec Ideal S2x4352x8x192 .f32) (v : FVec Ideal S2x4352x8x128 .f32) (n : Fin 8192) (c : Fin 1024) :
    attR q k v (ix2 n c) = ∑ j : Fin 4352, v (ix4 (⟨n.val / 4096, by omega⟩ : Fin 2) j (⟨c.val / 128, by omega⟩ : Fin 8) (⟨c.val % 128, by omega⟩ : Fin 128))
      * wtR (exR (scR q k) (mxR (scR q k))) (ix4 (⟨n.val / 4096, by omega⟩ : Fin 2) (⟨c.val / 128, by omega⟩ : Fin 8) (⟨n.val % 4096, by omega⟩ : Fin 4096) j) := by
  pointwise [attR]

theorem chanR_at (p : FVec Ideal S8704x9216 .bf16) (w : FVec Ideal S512x1024 .bf16) (a : Fin 2) (n : Fin 4352) (j : Fin 1024) :
    chanR p w (ix3 a n j) = ∑ k : Fin 512, p (ix2 (⟨n.val * 2 + j.val / 512, by omega⟩ : Fin 8704) ⟨6144 + k.val, by omega⟩) * w (ix2 k (⟨a.val * 512 + j.val % 512, by omega⟩ : Fin 1024)) := by
  pointwise [chanR]

/-- A weighted row of the reference is a softmax-weighted sum. -/
theorem wtR_soft (s : FVec Ideal S2x8x4096x4352 .f32) (v : Fin 4352 → EReal) (b : Fin 2) (h : Fin 8) (i : Fin 4096) :
    ∑ j : Fin 4352, v j * wtR (exR s (mxR s)) (ix4 b h i j) = softAt (fun j => s (ix4 b h i j)) v := by
  unfold softAt
  simp only [wtR_at, exR_at, mxR_at]

end Cert.Reference5Ideal.Att

end
-- ==== Proof.AttPay.lean ====
module

public import proofs.«01_k».proof.Proof.AttMath
public import proofs.«01_k».proof.Proof.Gen.Kernel5Ideal.Frame
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

/-- The scores of 256 queries. -/
def scK (k : FVec Ideal S4352x256 .bf16) (q : FVec Ideal S1x256x256 .bf16) : FVec Ideal S256x4352 .f32 :=
  matmul dot_S256x256_S4352x256_S256x4352_1_1_0_0_n_n none (shapeCast S256x256 q shapeCasts_S1x256x256_S256x256) k (constant S256x4352 .f32 0x00000000#32)

/-- Each query's largest score. -/
def mxK (s : FVec Ideal S256x4352 .f32) : FVec Ideal S256 .f32 :=
  multiReduction .maximumf [1] S256 s 0xFF800000#32 reduces_S256x4352_S256 (.inl rfl) rfl

/-- The weights, to the base two. -/
def exK (s : FVec Ideal S256x4352 .f32) (m : FVec Ideal S256 .f32) : FVec Ideal S256x4352 .bf16 :=
  truncf .bf16 (exp2 (subf s (broadcastTo S256x4352 (shapeCast S256x1 m shapeCasts_S256_S256x1) broadcasts_S256x1_S256x4352))) bitsLt_bf16_f32

/-- The weighted sums of the values' columns. -/
def avK (e : FVec Ideal S256x4352 .bf16) (v : FVec Ideal S4352x256 .bf16) : FVec Ideal S256x256 .f32 :=
  matmul dot_S256x4352_S4352x256_S256x256_1_0_0_1_n_n none e v (constant S256x256 .f32 0x00000000#32)

/-- The first 128 columns divided by the next one. -/
def dvK (a : FVec Ideal S256x256 .f32) : FVec Ideal S256x128 .bf16 :=
  truncf .bf16 (divf (extractStridedSlice S256x128 ![0, 0] a slices_S256x256_o0_0_S256x128) (broadcastTo S256x128 (extractStridedSlice S256x1 ![0, 128] a slices_S256x256_o0_128_S256x1) broadcasts_S256x1_S256x128)) bitsLt_bf16_f32

/-- What the kernel computes of 256 queries. -/
def attK (k v : FVec Ideal S4352x256 .bf16) (q : FVec Ideal S1x256x256 .bf16) : FVec Ideal S256x128 .bf16 :=
  dvK (avK (exK (scK k q) (mxK (scK k q))) v)

theorem scK_at (k : FVec Ideal S4352x256 .bf16) (q : FVec Ideal S1x256x256 .bf16) (i : Fin 256) (j : Fin 4352) :
    scK k q (ix2 i j) = ∑ c : Fin 256, q (ix3 (0 : Fin 1) i c) * k (ix2 j c) := by
  pointwise [scK]

theorem mxK_at (s : FVec Ideal S256x4352 .f32) (i : Fin 256) : mxK s (ix1 i) = top fun j => s (ix2 i j) := by
  unfold top
  pointwise [mxK]
  rw [show Ideal.ofBits .f32 0xFF800000#32 = ⊥ by simp [Ideal.ofBits, Ideal.ieee]]

theorem exK_at (s : FVec Ideal S256x4352 .f32) (m : FVec Ideal S256 .f32) (i : Fin 256) (j : Fin 4352) :
    exK s m (ix2 i j) = Ideal.exp2 (s (ix2 i j) - m (ix1 i)) := by
  pointwise [exK]
  rfl

theorem avK_at (e : FVec Ideal S256x4352 .bf16) (v : FVec Ideal S4352x256 .bf16) (i c : Fin 256) :
    avK e v (ix2 i c) = ∑ j : Fin 4352, e (ix2 i j) * v (ix2 j c) := by
  pointwise [avK]

theorem dvK_at (a : FVec Ideal S256x256 .f32) (i : Fin 256) (d : Fin 128) :
    dvK a (ix2 i d) = Ideal.div (a (ix2 i ⟨d.val, by omega⟩)) (a (ix2 i (128 : Fin 256))) := by
  pointwise [dvK]

theorem attK_at (k v : FVec Ideal S4352x256 .bf16) (q : FVec Ideal S1x256x256 .bf16) (i : Fin 256) (d : Fin 128) :
    attK k v q (ix2 i d) = lateAt (fun j => ∑ c : Fin 256, q (ix3 (0 : Fin 1) i c) * k (ix2 j c)) (fun j => v (ix2 j ⟨d.val, by omega⟩))
      (fun j => v (ix2 j (128 : Fin 256))) := by
  unfold attK lateAt
  simp only [dvK_at, avK_at, exK_at, mxK_at, scK_at]

theorem pay2_eq (k v : FVec Ideal S4352x256 .bf16) (q : FVec Ideal S1x256x256 .bf16) : k0_pay2 (F := Ideal) k v q = attK k v q := rfl
theorem pay17_eq (k v : FVec Ideal S1x1x4352x256 .bf16) (q : FVec Ideal S1x256x256 .bf16) :
    k0_pay17 (F := Ideal) k v q = attK (k0_pay15 k) (k0_pay16 v) q := rfl
theorem pay18_eq (k v : FVec Ideal S1x1x4352x256 .bf16) (q : FVec Ideal S1x256x256 .bf16) :
    k0_pay18 (F := Ideal) k v q = attK (k0_pay15 k) (k0_pay16 v) q := rfl
theorem pay19_eq (k v : FVec Ideal S4352x256 .bf16) (q : FVec Ideal S1x256x256 .bf16) : k0_pay19 (F := Ideal) k v q = attK k v q := rfl
theorem pay20_eq (k v : FVec Ideal S4352x256 .bf16) (q : FVec Ideal S1x256x256 .bf16) : k0_pay20 (F := Ideal) k v q = attK k v q := rfl
theorem pay22_eq (k v : FVec Ideal S4352x256 .bf16) (q : FVec Ideal S1x256x256 .bf16) :
    k0_pay22 (F := Ideal) v (k0_pay21 k q) = attK k v q := rfl
theorem pay23_eq (k v : FVec Ideal S4352x256 .bf16) (q : FVec Ideal S1x256x256 .bf16) : k0_pay23 (F := Ideal) k v q = attK k v q := rfl
theorem pay1_eq (k v : FVec Ideal S4352x256 .bf16) (q : FVec Ideal S1x256x256 .bf16) :
    k0_pay1 (F := Ideal) (k0_pay24 k v q) (k0_pay25 k v q) = attK k v q := rfl

/-- What a point stores into its block of the attention: each row's weighted sum over the values. -/
def attTile (q : FVec Ideal S1x2048x256 .bf16) (k v : FVec Ideal S1x1x4352x256 .bf16) : FVec Ideal S2048x128 .bf16 := fun y =>
  lateAt (fun j => ∑ c : Fin 256, q (ix3 (0 : Fin 1) (y 0) c) * k (ix4 (0 : Fin 1) (0 : Fin 1) j c))
    (fun j => v (ix4 (0 : Fin 1) (0 : Fin 1) j (⟨(y 1).val, lt_trans (y 1).isLt (by decide)⟩ : Fin 256))) (fun j => v (ix4 (0 : Fin 1) (0 : Fin 1) j (128 : Fin 256)))

theorem pay15_at (k : FVec Ideal S1x1x4352x256 .bf16) (j : Fin 4352) (c : Fin 256) : k0_pay15 (F := Ideal) k (ix2 j c) = k (ix4 (0 : Fin 1) (0 : Fin 1) j c) := by
  pointwise [k0_pay15]

theorem pay16_at (k : FVec Ideal S1x1x4352x256 .bf16) (j : Fin 4352) (c : Fin 256) : k0_pay16 (F := Ideal) k (ix2 j c) = k (ix4 (0 : Fin 1) (0 : Fin 1) j c) := by
  pointwise [k0_pay16]

/-- The rows of one of the eight pieces. -/
theorem piece_at (q : FVec Ideal S1x2048x256 .bf16) (k v : FVec Ideal S1x1x4352x256 .bf16) (q' : FVec Ideal S1x256x256 .bf16) (x : S256x128.Idx) (y : S2048x128.Idx)
    (h0 : ∀ c : Fin 256, q' (ix3 (0 : Fin 1) (x 0) c) = q (ix3 (0 : Fin 1) (y 0) c)) (h1 : (y 1).val = (x 1).val) :
    attK (k0_pay15 (F := Ideal) k) (k0_pay16 (F := Ideal) v) q' x = attTile q k v y := by
  obtain ⟨i, d, rfl⟩ : ∃ i d, x = ix2 i d := ⟨x 0, x 1, by funext a; fin_cases a <;> rfl⟩
  have e : (⟨(y 1).val, lt_trans (y 1).isLt (by decide)⟩ : Fin 256) = ⟨d.val, lt_trans d.isLt (by decide)⟩ := Fin.ext h1
  have h0' : ∀ c : Fin 256, q' (ix3 (0 : Fin 1) i c) = q (ix3 (0 : Fin 1) (y 0) c) := h0
  unfold attTile
  simp only [attK_at, pay15_at, pay16_at, h0', e]

end Cert.Kernel5Ideal.Att

end
-- ==== Proof.AttScratch.lean ====
module

public import proofs.«01_k».proof.Proof.AttPay

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

variable (m : (ℓ : Loc nD τ sig) → Buf (Elt Ideal) ℓ)

/-- What a point stores into its block of the attention, rows by rows. -/
def stored (q : FVec Ideal S1x2048x256 .bf16) (k v : FVec Ideal S1x1x4352x256 .bf16) : FVec Ideal S2048x128 .bf16 :=
  View.canon (Val := Elt Ideal) (s := S2048x128) (e := .bf16) [⟨Rect.unit ![1792, 0] ![256, 128] inb_S2048x128_S256x128_1792_0, k0_pay2 (F := Ideal) (k0_pay15 k) (k0_pay16 v) (View.ld (Val := Elt Ideal) (e' := .bf16) q (Rect.unit ![0, 1792, 0] ![1, 256, 256] inb_S1x2048x256_S1x256x256_0_1792_0))⟩,
    ⟨Rect.unit ![1536, 0] ![256, 128] inb_S2048x128_S256x128_1536_0, k0_pay1 (F := Ideal) (k0_pay24 (k0_pay15 k) (k0_pay16 v) (View.ld (Val := Elt Ideal) (e' := .bf16) q (Rect.unit ![0, 1536, 0] ![1, 256, 256] inb_S1x2048x256_S1x256x256_0_1536_0))) (k0_pay25 (k0_pay15 k) (k0_pay16 v) (View.ld (Val := Elt Ideal) (e' := .bf16) q (Rect.unit ![0, 1536, 0] ![1, 256, 256] inb_S1x2048x256_S1x256x256_0_1536_0)))⟩,
    ⟨Rect.unit ![1280, 0] ![256, 128] inb_S2048x128_S256x128_1280_0, k0_pay23 (F := Ideal) (k0_pay15 k) (k0_pay16 v) (View.ld (Val := Elt Ideal) (e' := .bf16) q (Rect.unit ![0, 1280, 0] ![1, 256, 256] inb_S1x2048x256_S1x256x256_0_1280_0))⟩,
    ⟨Rect.unit ![1024, 0] ![256, 128] inb_S2048x128_S256x128_1024_0, k0_pay22 (F := Ideal) (k0_pay16 v) (k0_pay21 (k0_pay15 k) (View.ld (Val := Elt Ideal) (e' := .bf16) q (Rect.unit ![0, 1024, 0] ![1, 256, 256] inb_S1x2048x256_S1x256x256_0_1024_0)))⟩,
    ⟨Rect.unit ![768, 0] ![256, 128] inb_S2048x128_S256x128_768_0, k0_pay20 (F := Ideal) (k0_pay15 k) (k0_pay16 v) (View.ld (Val := Elt Ideal) (e' := .bf16) q (Rect.unit ![0, 768, 0] ![1, 256, 256] inb_S1x2048x256_S1x256x256_0_768_0))⟩,
    ⟨Rect.unit ![512, 0] ![256, 128] inb_S2048x128_S256x128_512_0, k0_pay19 (F := Ideal) (k0_pay15 k) (k0_pay16 v) (View.ld (Val := Elt Ideal) (e' := .bf16) q (Rect.unit ![0, 512, 0] ![1, 256, 256] inb_S1x2048x256_S1x256x256_0_512_0))⟩,
    ⟨Rect.unit ![256, 0] ![256, 128] inb_S2048x128_S256x128_256_0, k0_pay18 (F := Ideal) k v (View.ld (Val := Elt Ideal) (e' := .bf16) q (Rect.unit ![0, 256, 0] ![1, 256, 256] inb_S1x2048x256_S1x256x256_0_256_0))⟩,
    ⟨Rect.unit ![0, 0] ![256, 128] inb_S2048x128_S256x128_0_0, k0_pay17 (F := Ideal) k v (View.ld (Val := Elt Ideal) (e' := .bf16) q (Rect.unit ![0, 0, 0] ![1, 256, 256] inb_S1x2048x256_S1x256x256_0_0_0))⟩]

/-- The piece whose rows start at row `o`. -/
theorem rows_at (o : ℕ) (hin : ∀ a, (![0, o, 0] : Fin 3 → ℕ) a + S1x256x256.size a ≤ S1x2048x256.size a) (q : FVec Ideal S1x2048x256 .bf16)
    (k v : FVec Ideal S1x1x4352x256 .bf16) (x : S256x128.Idx) (y : S2048x128.Idx) (h0 : (y 0).val = o + (x 0).val) (h1 : (y 1).val = (x 1).val) :
    attK (k0_pay15 (F := Ideal) k) (k0_pay16 (F := Ideal) v) (View.ld (Val := Elt Ideal) (e' := .bf16) q (Rect.unit (s := S1x2048x256) ![0, o, 0] ![1, 256, 256] hin)) x
      = attTile q k v y := by
  refine piece_at q k v _ x y (fun c => ?_) h1
  refine congrArg (fun z : S1x2048x256.Idx => q z) ?_
  funext a
  apply Fin.ext
  rw [Rect.idx_unit_val]
  fin_cases a
  · rfl
  · exact h0.symm
  · exact Nat.zero_add _

theorem stored_eq (q : FVec Ideal S1x2048x256 .bf16) (k v : FVec Ideal S1x1x4352x256 .bf16) : stored q k v = attTile q k v := by
  funext y
  unfold stored
  canon_tiles x h
  case piece0 => exact (congrFun (pay2_eq _ _ _) _).trans (rows_at 1792 _ q k v x y h0 h1)
  case piece1 => exact (congrFun (pay1_eq _ _ _) _).trans (rows_at 1536 _ q k v x y h0 h1)
  case piece2 => exact (congrFun (pay23_eq _ _ _) _).trans (rows_at 1280 _ q k v x y h0 h1)
  case piece3 => exact (congrFun (pay22_eq _ _ _) _).trans (rows_at 1024 _ q k v x y h0 h1)
  case piece4 => exact (congrFun (pay20_eq _ _ _) _).trans (rows_at 768 _ q k v x y h0 h1)
  case piece5 => exact (congrFun (pay19_eq _ _ _) _).trans (rows_at 512 _ q k v x y h0 h1)
  case piece6 => exact (congrFun (pay18_eq _ _ _) _).trans (rows_at 256 _ q k v x y h0 h1)
  case piece7 => exact (congrFun (pay17_eq _ _ _) _).trans (rows_at 0 _ q k v x y (h0.trans (Nat.zero_add _).symm) h1)

theorem out13_eq (c : Dev nD) (t : Fin cfg0.N) : (outsAt0 m c t).1 = stored (X0_0 m c t) (iblk m c 1 t) (iblk m c 2 t) := by
  unfold outsAt0
  dsimp only
  unfold out0_A_13
  frame_open
  simp only [View.readCov_eq_canon']
  frame_out
  all_goals rfl

end Cert.Kernel5Ideal.Att

end
-- ==== Proof.AttBlocks.lean ====
module

public import proofs.«01_k».proof.Proof.AttScratch

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

theorem idx0 : ∀ t : Fin cfg0.N, win0_0.index t = ![t.val / 2 % 8, t.val / 16 * 2 + t.val % 2, 0] ∧ win0_1.index t = ![t.val / 16, t.val / 2 % 8, 0, 0]
    ∧ win0_2.index t = ![t.val / 16, t.val / 2 % 8, 0, 0] ∧ win0_13.index t = ![t.val / 16 * 2 + t.val % 2, t.val / 2 % 8] :=
  (by decide +kernel : ∀ t : Fin grid0.N, _)

theorem idx1 : ∀ t : Fin cfg0.N, win0_3.index t = ![t.val, 12] ∧ win0_4.index t = ![0, 0] ∧ win0_5.index t = ![0, 0] ∧ win0_14.index t = ![0, t.val, 0] :=
  (by decide +kernel : ∀ t : Fin grid0.N, _)

theorem idx2 : ∀ t : Fin cfg0.N, win0_6.index t = ![0, t.val, 0] ∧ win0_7.index t = ![0, t.val, 0] ∧ win0_8.index t = ![0, t.val, 0] ∧ win0_9.index t = ![0, t.val, 0]
     ∧ win0_10.index t = ![0, t.val, 0] ∧ win0_11.index t = ![0, t.val, 0] ∧ win0_12.index t = ![0, t.val, 0] :=
  (by decide +kernel : ∀ t : Fin grid0.N, _)

theorem idx3 : ∀ t : Fin cfg0.N, win0_15.index t = ![t.val, 0] ∧ win0_16.index t = ![t.val, 0] ∧ win0_17.index t = ![t.val, 0] ∧ win0_18.index t = ![t.val, 0]
     ∧ win0_19.index t = ![t.val, 0] ∧ win0_20.index t = ![t.val, 0] ∧ win0_21.index t = ![t.val, 0] :=
  (by decide +kernel : ∀ t : Fin grid0.N, _)

variable (m : (ℓ : Loc nD τ sig) → Buf (Elt Ideal) ℓ)

theorem q_at (c : Dev nD) (t : Fin cfg0.N) (i : Fin 2048) (d : Fin 192) (r : Fin 8704) (h : Fin 8) (hr : r.val = (t.val / 16 * 2 + t.val % 2) * 2048 + i.val)
    (hh : h.val = t.val / 2 % 8) :
    (X0_0 m c t : FVec Ideal S1x2048x256 .bf16) (ix3 (0 : Fin 1) i (⟨d.val, by omega⟩ : Fin 256))
      = Ideal.div ((m ((c.tc : Thread nD τ).loc main_arg0) : FVec Ideal S8704x8x192 .f32) (ix3 r h d)) (Ideal.sqrt (Ideal.ofBits .f32 0x43400000#32) * Ideal.log (Ideal.ofBits .f32 0x40000000#32)) := by
  have hi := i.isLt
  have hd := d.isLt
  unfold X0_0 Pipeline.Window.fill
  rw [dif_pos (moved0_0 t _)]
  blk_simp [iblk]
  entry_read
  pointwise
  split_ifs with hc
  · refine congrArg (fun z => Ideal.div z _) ?_
    blk_ext [(idx0 t).1]
  · exact absurd (by blk_simp [(idx0 t).1]; exact hd) hc

theorem q_pad (c : Dev nD) (t : Fin cfg0.N) (i : Fin 2048) (d : Fin 64) :
    (X0_0 m c t : FVec Ideal S1x2048x256 .bf16) (ix3 (0 : Fin 1) i (⟨192 + d.val, by omega⟩ : Fin 256)) = (0 : EReal) := by
  have hd := d.isLt
  unfold X0_0 Pipeline.Window.fill
  rw [dif_pos (moved0_0 t _)]
  blk_simp [iblk]
  entry_read
  pointwise
  split_ifs with hc
  · exact absurd hc (by blk_simp [(idx0 t).1]; show ¬ 192 + d.val < 192; omega)
  · rfl

theorem k_at (c : Dev nD) (t : Fin cfg0.N) (j : Fin 4352) (d : Fin 192) (b : Fin 2) (h : Fin 8) (hb : b.val = t.val / 16)
    (hh : h.val = t.val / 2 % 8) :
    (iblk m c 1 t : FVec Ideal S1x1x4352x256 .bf16) (ix4 (0 : Fin 1) (0 : Fin 1) j (⟨d.val, by omega⟩ : Fin 256))
      = (m ((c.tc : Thread nD τ).loc main_arg1) : FVec Ideal S2x4352x8x192 .f32) (ix4 b j h d) := by
  have hd := d.isLt
  blk_simp [iblk]
  entry_read
  pointwise
  split_ifs with hc
  · blk_ext [(idx0 t).2.1]
  · exact absurd (by blk_simp [(idx0 t).2.1]; exact hd) hc

end Cert.Kernel5Ideal.Att

end
-- ==== Proof.AttV.lean ====
module

public import proofs.«01_k».proof.Proof.AttBlocks

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

variable (m : (ℓ : Loc nD τ sig) → Buf (Elt Ideal) ℓ)

set_option maxHeartbeats 4000000 in
/-- The values with a column of ones and padding after them, as the host prepares them. -/
theorem vpack_eq (c : Dev nD) : V m c main_v17 = (truncf .bf16 (concatenate S2x8x4352x256 3
    [⟨S2x8x4352x128, (transpose S2x8x4352x128 [0, 2, 1, 3] (m ((c.tc : Thread nD τ).loc main_arg2)) transposes_S2x4352x8x128_S2x8x4352x128_0_2_1_3 : FVec Ideal S2x8x4352x128 .f32)⟩,
     ⟨S2x8x4352x1, (broadcastInDim S2x8x4352x1 ![] bcast_S_S2x8x4352x1 (constant (F := Ideal) S_ .f32 0x3F800000#32) : FVec Ideal S2x8x4352x1 .f32)⟩,
     ⟨S2x8x4352x127, (broadcastInDim S2x8x4352x127 ![] bcast_S_S2x8x4352x127 (constant (F := Ideal) S_ .f32 0x00000000#32) : FVec Ideal S2x8x4352x127 .f32)⟩]
    concatenates_S2x8x4352x128_S2x8x4352x1_S2x8x4352x127_S2x8x4352x256_d3) bitsLt_bf16_f32 : FVec Ideal S2x8x4352x256 .bf16) :=
  rfl

theorem v_at (c : Dev nD) (t : Fin cfg0.N) (j : Fin 4352) (d : Fin 128) (b : Fin 2) (h : Fin 8) (hb : b.val = t.val / 16)
    (hh : h.val = t.val / 2 % 8) :
    (iblk m c 2 t : FVec Ideal S1x1x4352x256 .bf16) (ix4 (0 : Fin 1) (0 : Fin 1) j (⟨d.val, by omega⟩ : Fin 256))
      = (m ((c.tc : Thread nD τ).loc main_arg2) : FVec Ideal S2x4352x8x128 .f32) (ix4 b j h d) := by
  have hd := d.isLt
  blk_simp [iblk]
  rw [vpack_eq]
  pointwise
  rw [dif_pos (by blk_simp [(idx0 t).2.2.1]; exact hd)]
  blk_ext [(idx0 t).2.2.1]

theorem ones_at (c : Dev nD) (t : Fin cfg0.N) (j : Fin 4352) :
    (iblk m c 2 t : FVec Ideal S1x1x4352x256 .bf16) (ix4 (0 : Fin 1) (0 : Fin 1) j (⟨128, by omega⟩ : Fin 256)) = (1 : EReal) := by
  blk_simp [iblk]
  rw [vpack_eq]
  pointwise
  rw [dif_neg (by blk_simp [(idx0 t).2.2.1]; decide), dif_pos (by blk_simp [(idx0 t).2.2.1]; decide)]

end Cert.Kernel5Ideal.Att

end
-- ==== Proof.AttValue.lean ====
module

public import proofs.«01_k».proof.Proof.AttV

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

variable (m : (ℓ : Loc nD τ sig) → Buf (Elt Ideal) ℓ)

/-- The constant 192. -/
theorem c192 : Ideal.ofBits .f32 0x43400000#32 = ((192 : ℝ) : EReal) := by
  simp [Ideal.ofBits, Ideal.ieee, -EReal.coe_mul]
  norm_num

/-- The constant 2. -/
theorem c2 : Ideal.ofBits .f32 0x40000000#32 = ((2 : ℝ) : EReal) := by
  simp [Ideal.ofBits, Ideal.ieee, -EReal.coe_mul]
  norm_num

theorem sqrt192 : Ideal.sqrt (Ideal.ofBits .f32 0x43400000#32) = ((Real.sqrt 192 : ℝ) : EReal) := by
  rw [c192]
  show (if (192 : ℝ) < 0 then (⊥ : EReal) else ((Real.sqrt 192 : ℝ) : EReal)) = _
  rw [if_neg (by norm_num)]

theorem log2 : Ideal.log (Ideal.ofBits .f32 0x40000000#32) = ((Real.log 2 : ℝ) : EReal) := by
  rw [c2]
  show (if (2 : ℝ) ≤ 0 then (⊥ : EReal) else ((Real.log 2 : ℝ) : EReal)) = _
  rw [if_neg (by norm_num)]

theorem sqrt192_ne : Real.sqrt 192 ≠ 0 := (Real.sqrt_pos.2 (by norm_num)).ne'

theorem log2_ne : Real.log 2 ≠ 0 := (Real.log_pos one_lt_two).ne'

/-- One entry of the attention: the values of a head, weighted by the softmax of a row's scaled scores. -/
def attEntry (q : FVec Ideal S8704x8x192 .f32) (k : FVec Ideal S2x4352x8x192 .f32) (v : FVec Ideal S2x4352x8x128 .f32) (r : Fin 8704) (b : Fin 2) (h : Fin 8) (d : Fin 128) : EReal :=
  softAt (fun j : Fin 4352 => Ideal.div (∑ e : Fin 192, q (ix3 r h e) * k (ix4 b j h e)) (Ideal.sqrt (Ideal.ofBits .f32 0x43400000#32))) (fun j => v (ix4 b j h d))

/-- With real queries and keys, late division of base-two weights over prepared blocks is the softmax. -/
theorem attEntry_late (q : FVec Ideal S8704x8x192 .f32) (k : FVec Ideal S2x4352x8x192 .f32) (v : FVec Ideal S2x4352x8x128 .f32)
    (hq : ∀ i, ∃ x : ℝ, q i = (x : EReal)) (hk : ∀ i, ∃ x : ℝ, k i = (x : EReal)) (r : Fin 8704) (b : Fin 2) (h : Fin 8) (d : Fin 128)
    (qp : Fin 256 → EReal) (kp : Fin 4352 → Fin 256 → EReal) (vp op : Fin 4352 → EReal)
    (eq : ∀ e : Fin 192, qp (⟨e.val, by omega⟩ : Fin 256) = Ideal.div (q (ix3 r h e)) (Ideal.sqrt (Ideal.ofBits .f32 0x43400000#32) * Ideal.log (Ideal.ofBits .f32 0x40000000#32)))
    (eq' : ∀ e : Fin 64, qp (⟨192 + e.val, by omega⟩ : Fin 256) = 0)
    (ek : ∀ (j : Fin 4352) (e : Fin 192), kp j (⟨e.val, by omega⟩ : Fin 256) = k (ix4 b j h e)) (ev : ∀ j, vp j = v (ix4 b j h d)) (eo : ∀ j, op j = 1) :
    lateAt (fun j => ∑ e : Fin 256, qp e * kp j e) vp op = attEntry q k v r b h d := by
  choose qr hqr using hq
  choose kr hkr using hk
  have s1 : (fun j => ∑ e : Fin 256, qp e * kp j e)
      = fun j : Fin 4352 => (((∑ e : Fin 192, qr (ix3 r h e) * kr (ix4 b j h e)) / Real.sqrt 192 / Real.log 2 : ℝ) : EReal) := by
    funext j
    refine late_score (fun e => qr (ix3 r h e)) (fun e => kr (ix4 b j h e)) _ _ sqrt192_ne log2_ne qp (kp j) (fun e => ?_) eq' fun e => (ek j e).trans (hkr _)
    refine (eq e).trans ?_
    rw [hqr, sqrt192, log2, ← EReal.coe_mul]
  have s2 : (fun j : Fin 4352 => Ideal.div (∑ e : Fin 192, q (ix3 r h e) * k (ix4 b j h e)) (Ideal.sqrt (Ideal.ofBits .f32 0x43400000#32)))
      = fun j : Fin 4352 => (((∑ e : Fin 192, qr (ix3 r h e) * kr (ix4 b j h e)) / Real.sqrt 192 : ℝ) : EReal) := by
    funext j
    simp only [hqr, hkr]
    rw [sqrt192]
    exact soft_score (fun e => qr (ix3 r h e)) (fun e => kr (ix4 b j h e)) _ sqrt192_ne
  have e2 : vp = fun j => v (ix4 b j h d) := funext ev
  unfold attEntry
  rw [s1, s2, e2]
  exact (lateAt_real _ _ _ eo).trans (softAt_real _ _).symm

/-- The latent attention of all rows and heads. -/
def att (q : FVec Ideal S8704x8x192 .f32) (k : FVec Ideal S2x4352x8x192 .f32) (v : FVec Ideal S2x4352x8x128 .f32) : FVec Ideal S8192x1024 .bf16 := fun y =>
  attEntry q k v (⟨(y 0).val, lt_trans (y 0).isLt (by decide)⟩ : Fin 8704) (⟨(y 0).val / 4096, by have h0 : (y 0).val < 8192 := (y 0).isLt; omega⟩ : Fin 2)
    (⟨(y 1).val / 128, by have h1 : (y 1).val < 1024 := (y 1).isLt; omega⟩ : Fin 8) (⟨(y 1).val % 128, Nat.mod_lt _ (by decide)⟩ : Fin 128)

theorem att_tile (c : Dev nD) (hq : ∀ i, ∃ x : ℝ, (m ((c.tc : Thread nD τ).loc main_arg0) : FVec Ideal S8704x8x192 .f32) i = (x : EReal))
    (hk : ∀ i, ∃ x : ℝ, (m ((c.tc : Thread nD τ).loc main_arg1) : FVec Ideal S2x4352x8x192 .f32) i = (x : EReal))
    (t : Fin cfg0.N) (y : S2048x128.Idx) (z : S8192x1024.Idx)
    (h0 : (z 0 : ℕ) = (t.val / 16 * 2 + t.val % 2) * 2048 + (y 0 : ℕ)) (h1 : (z 1 : ℕ) = t.val / 2 % 8 * 128 + (y 1 : ℕ)) :
    (outsAt0 m c t).1 y = att (m ((c.tc : Thread nD τ).loc main_arg0)) (m ((c.tc : Thread nD τ).loc main_arg1)) (m ((c.tc : Thread nD τ).loc main_arg2)) z := by
  have hN := lt_of_lt_of_eq t.isLt (show cfg0.N = 32 from N_0)
  have y0 : (y 0).val < 2048 := (y 0).isLt
  have y1 : (y 1).val < 128 := (y 1).isLt
  rw [out13_eq, stored_eq]
  unfold attTile att
  refine attEntry_late _ _ _ hq hk _ _ _ _ _ _ _ _ (fun e => q_at m c t (y 0) e _ _ ?_ ?_) (fun e => q_pad m c t (y 0) e) (fun j e => k_at m c t j e _ _ ?_ ?_)
    (fun j => ?_) (fun j => ones_at m c t j)
  · exact h0
  · show (z 1).val / 128 = _
    omega
  · show (z 0).val / 4096 = _
    omega
  · show (z 1).val / 128 = _
    omega
  · refine (v_at m c t j (⟨(y 1).val, y1⟩ : Fin 128) (⟨(z 0).val / 4096, by omega⟩ : Fin 2) (⟨(z 1).val / 128, by omega⟩ : Fin 8) ?_ ?_).trans ?_
    · show (z 0).val / 4096 = _
      omega
    · show (z 1).val / 128 = _
      omega
    · refine congrArg (fun d : Fin 128 => (m ((c.tc : Thread nD τ).loc main_arg2) : FVec Ideal S2x4352x8x128 .f32)
        (ix4 (⟨(z 0).val / 4096, by omega⟩ : Fin 2) j (⟨(z 1).val / 128, by omega⟩ : Fin 8) d)) (Fin.ext ?_)
      show (y 1).val = (z 1).val % 128
      omega

/-- The attention array that the call returns. -/
theorem final_att (c : Dev nD) (hq : ∀ i, ∃ x : ℝ, (m ((c.tc : Thread nD τ).loc main_arg0) : FVec Ideal S8704x8x192 .f32) i = (x : EReal))
    (hk : ∀ i, ∃ x : ℝ, (m ((c.tc : Thread nD τ).loc main_arg1) : FVec Ideal S2x4352x8x192 .f32) i = (x : EReal)) :
    (dats m 0 c).arrAt 13 cfg0.N = att (m ((c.tc : Thread nD τ).loc main_arg0)) (m ((c.tc : Thread nD τ).loc main_arg1)) (m ((c.tc : Thread nD τ).loc main_arg2)) := by
  refine (dats m 0 c).arrAt_eq_of_covers 13 _ (by decide +kernel) fun t hf y => ?_
  blk_simp
  rw [after0_13]
  refine att_tile m c hq hk t y _ ?_ ?_
  · blk_simp [(idx0 t).2.2.2]
  · blk_simp [(idx0 t).2.2.2]

end Cert.Kernel5Ideal.Att

end
-- ==== Proof.AttOut.lean ====
module

public import proofs.«01_k».proof.Proof.AttScratch

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

variable (m : (ℓ : Loc nD τ sig) → Buf (Elt Ideal) ℓ)

/-- What a point stores into its block of the channel projection. -/
def chanStored (p : FVec Ideal S272x512 .bf16) (w : FVec Ideal S512x1024 .bf16) (s : FVec Ideal S272x272 .bf16) : FVec Ideal S2x136x1024 .bf16 :=
  View.canon (Val := Elt Ideal) (s := S2x136x1024) (e := .bf16) [⟨Rect.unit ![1, 0, 512] ![1, 136, 512] inb_S2x136x1024_S1x136x512_1_0_512, k0_pay14 (F := Ideal) p w s⟩,
    ⟨Rect.unit ![1, 0, 0] ![1, 136, 512] inb_S2x136x1024_S1x136x512_1_0_0, k0_pay13 (F := Ideal) p w s⟩,
    ⟨Rect.unit ![0, 0, 512] ![1, 136, 512] inb_S2x136x1024_S1x136x512_0_0_512, k0_pay12 (F := Ideal) p w s⟩,
    ⟨Rect.unit ![0, 0, 0] ![1, 136, 512] inb_S2x136x1024_S1x136x512_0_0_0, k0_pay11 (F := Ideal) p w s⟩]

theorem out14_eq (c : Dev nD) (t : Fin cfg0.N) : (outsAt0 m c t).2.1 = chanStored (iblk m c 3 t) (iblk m c 4 t) (iblk m c 5 t) := by
  unfold outsAt0
  dsimp only
  unfold out0_A_14
  frame_open
  simp only [View.readCov_eq_canon']
  frame_out
  all_goals rfl

/-- The entry of a block of the channel projection: a row of the selection times the projected rows. -/
def chanEntry (p : FVec Ideal S272x512 .bf16) (w : FVec Ideal S512x1024 .bf16) (s : FVec Ideal S272x272 .bf16) (r : Fin 272) (j : Fin 1024) : EReal :=
  ∑ n : Fin 272, s (ix2 r n) * ∑ k : Fin 512, p (ix2 n k) * w (ix2 k j)

theorem pay10_at (p : FVec Ideal S272x512 .bf16) (w : FVec Ideal S512x1024 .bf16) (s : FVec Ideal S272x272 .bf16) (r : Fin 272) (j : Fin 1024) :
    k0_pay10 (F := Ideal) p w s (ix2 r j) = chanEntry p w s r j := by
  unfold chanEntry
  pointwise [k0_pay10]

theorem chanStored_at (p : FVec Ideal S272x512 .bf16) (w : FVec Ideal S512x1024 .bf16) (s : FVec Ideal S272x272 .bf16) (y : S2x136x1024.Idx) (r : Fin 272) (j : Fin 1024)
    (hr : r.val = (y 2).val / 512 * 136 + (y 1).val) (hj : j.val = (y 0).val * 512 + (y 2).val % 512) :
    chanStored p w s y = k0_pay10 (F := Ideal) p w s (ix2 r j) := by
  unfold chanStored
  canon_tiles x h
  case piece0 =>
    pointwise [k0_pay14]
    blk_point []
  case piece1 =>
    pointwise [k0_pay13]
    blk_point []
  case piece2 =>
    pointwise [k0_pay12]
    blk_point []
  case piece3 =>
    pointwise [k0_pay11]
    blk_point []

/-- What a point stores into its blocks of the cast weights. -/
theorem outs_eq (c : Dev nD) (t : Fin cfg0.N) :
    (outsAt0 m c t).2.2.1 = k0_pay3 (F := Ideal) (iblk m c 6 t) ∧ (outsAt0 m c t).2.2.2.1 = k0_pay4 (F := Ideal) (iblk m c 7 t)
    ∧ (outsAt0 m c t).2.2.2.2.1 = k0_pay5 (F := Ideal) (iblk m c 8 t) ∧ (outsAt0 m c t).2.2.2.2.2.1 = k0_pay6 (F := Ideal) (iblk m c 9 t)
    ∧ (outsAt0 m c t).2.2.2.2.2.2.1 = k0_pay7 (F := Ideal) (iblk m c 10 t) ∧ (outsAt0 m c t).2.2.2.2.2.2.2.1 = k0_pay8 (F := Ideal) (iblk m c 11 t)
    ∧ (outsAt0 m c t).2.2.2.2.2.2.2.2 = k0_pay9 (F := Ideal) (iblk m c 12 t) := by
  unfold outsAt0
  dsimp only
  refine ⟨?_, ?_, ?_, ?_, ?_, ?_, ?_⟩
  all_goals
    first | unfold out0_A_15 | unfold out0_A_16 | unfold out0_A_17 | unfold out0_A_18 | unfold out0_A_19 | unfold out0_A_20 | unfold out0_A_21
    frame_open
    simp only [View.readCov_eq_canon']
    frame_out
    all_goals rfl

end Cert.Kernel5Ideal.Att

end
-- ==== Proof.AttWeights.lean ====
module

public import proofs.«01_k».proof.Proof.AttBlocks
public import proofs.«01_k».proof.Proof.AttOut

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

variable (m : (ℓ : Loc nD τ sig) → Buf (Elt Ideal) ℓ)

/-- The first of two stacked weights. -/
def first {a b : ℕ} (w : FVec Ideal ⟨3, ![2, a, b]⟩ .f32) : FVec Ideal ⟨2, ![a, b]⟩ .bf16 := fun y => w (ix3 (0 : Fin 2) (y 0) (y 1))

set_option maxHeartbeats 4000000 in
/-- The cast weights that the call returns. -/
theorem final_w (c : Dev nD) :
    (dats m 0 c).arrAt 15 cfg0.N = first (m ((c.tc : Thread nD τ).loc main_arg5))
    ∧ (dats m 0 c).arrAt 16 cfg0.N = first (m ((c.tc : Thread nD τ).loc main_arg6))
    ∧ (dats m 0 c).arrAt 17 cfg0.N = first (m ((c.tc : Thread nD τ).loc main_arg7))
    ∧ (dats m 0 c).arrAt 18 cfg0.N = first (m ((c.tc : Thread nD τ).loc main_arg8))
    ∧ (dats m 0 c).arrAt 19 cfg0.N = first (m ((c.tc : Thread nD τ).loc main_arg9))
    ∧ (dats m 0 c).arrAt 20 cfg0.N = first (m ((c.tc : Thread nD τ).loc main_arg10))
    ∧ (dats m 0 c).arrAt 21 cfg0.N = first (m ((c.tc : Thread nD τ).loc main_arg11)) := by
  refine ⟨?_, ?_, ?_, ?_, ?_, ?_, ?_⟩
  all_goals
    refine (dats m 0 c).arrAt_eq_of_covers _ _ (by decide +kernel) fun t hf y => ?_
    obtain ⟨e15, e16, e17, e18, e19, e20, e21⟩ := outs_eq m c t
    obtain ⟨i6, i7, i8, i9, i10, i11, i12⟩ := idx2 t
    obtain ⟨i15, i16, i17, i18, i19, i20, i21⟩ := idx3 t
    blk_simp
    simp only [after0_15, after0_16, after0_17, after0_18, after0_19, after0_20, after0_21, e15, e16, e17, e18, e19, e20, e21]
    pointwise [k0_pay3, k0_pay4, k0_pay5, k0_pay6, k0_pay7, k0_pay8, k0_pay9]
    unfold first
    blk_simp [iblk]
    entry_read
    blk_ext [i6, i7, i8, i9, i10, i11, i12, i15, i16, i17, i18, i19, i20, i21]

end Cert.Kernel5Ideal.Att

end
-- ==== Proof.AttLit.lean ====
module

public import proofs.«01_k».proof.Kernel5Ideal

@[expose] public section

set_option maxRecDepth 16384

noncomputable section

open Idealize.ShloMosaic Idealize.ShloMosaic.TcCoe Idealize.SL.Sem

namespace Cert.Kernel5Ideal.Att

open Cert.Kernel5Ideal

/-- Row `r` of the selection literal: one at the column it picks (even rows first, then odd rows), zero elsewhere. -/
abbrev litRow (r : ℕ) : Prop :=
  ∀ n : Fin 272, lit0 (⟨(r * 272 + n.val) % 73984, Nat.mod_lt _ (by decide)⟩ : Fin 73984)
    = if n.val = (if r < 136 then 2 * r else 2 * (r - 136) + 1) then 0x3F800000#32 else 0x00000000#32

end Cert.Kernel5Ideal.Att

end
-- ==== Proof.AttLitA.lean ====
module

public import proofs.«01_k».proof.Proof.AttLit

@[expose] public section

set_option maxRecDepth 16384

noncomputable section

open Idealize.ShloMosaic Idealize.ShloMosaic.TcCoe Idealize.SL.Sem

namespace Cert.Kernel5Ideal.Att

open Cert.Kernel5Ideal

theorem lit_part0 : ∀ r : Fin 34, litRow (0 + r.val) := by decide +kernel

theorem lit_part1 : ∀ r : Fin 34, litRow (34 + r.val) := by decide +kernel

end Cert.Kernel5Ideal.Att

end
-- ==== Proof.AttLitB.lean ====
module

public import proofs.«01_k».proof.Proof.AttLit

@[expose] public section

set_option maxRecDepth 16384

noncomputable section

open Idealize.ShloMosaic Idealize.ShloMosaic.TcCoe Idealize.SL.Sem

namespace Cert.Kernel5Ideal.Att

open Cert.Kernel5Ideal

theorem lit_part2 : ∀ r : Fin 34, litRow (68 + r.val) := by decide +kernel

theorem lit_part3 : ∀ r : Fin 34, litRow (102 + r.val) := by decide +kernel

end Cert.Kernel5Ideal.Att

end
-- ==== Proof.AttLitC.lean ====
module

public import proofs.«01_k».proof.Proof.AttLit

@[expose] public section

set_option maxRecDepth 16384

noncomputable section

open Idealize.ShloMosaic Idealize.ShloMosaic.TcCoe Idealize.SL.Sem

namespace Cert.Kernel5Ideal.Att

open Cert.Kernel5Ideal

theorem lit_part4 : ∀ r : Fin 34, litRow (136 + r.val) := by decide +kernel

theorem lit_part5 : ∀ r : Fin 34, litRow (170 + r.val) := by decide +kernel

end Cert.Kernel5Ideal.Att

end
-- ==== Proof.AttLitD.lean ====
module

public import proofs.«01_k».proof.Proof.AttLit

@[expose] public section

set_option maxRecDepth 16384

noncomputable section

open Idealize.ShloMosaic Idealize.ShloMosaic.TcCoe Idealize.SL.Sem

namespace Cert.Kernel5Ideal.Att

open Cert.Kernel5Ideal

theorem lit_part6 : ∀ r : Fin 34, litRow (204 + r.val) := by decide +kernel

theorem lit_part7 : ∀ r : Fin 34, litRow (238 + r.val) := by decide +kernel

end Cert.Kernel5Ideal.Att

end
-- ==== Proof.AttLitRow.lean ====
module

public import proofs.«01_k».proof.Proof.AttLitA
public import proofs.«01_k».proof.Proof.AttLitB
public import proofs.«01_k».proof.Proof.AttLitC
public import proofs.«01_k».proof.Proof.AttLitD
public import Idealize.ShloMosaic.PureOps.Ideal

@[expose] public section

set_option maxRecDepth 16384

noncomputable section

open Idealize.ShloMosaic Idealize.ShloMosaic.TcCoe Idealize.SL.Sem

namespace Cert.Kernel5Ideal.Att

open Cert.Kernel5Ideal

/-- Row `r` of the literal is as it should be. -/
@[irreducible] def rowOk (r : ℕ) : Prop := litRow r

theorem rowOk_of {r : ℕ} (h : litRow r) : rowOk r := by
  unfold rowOk
  exact h

theorem litRow_of {r : ℕ} (h : rowOk r) : litRow r := by
  unfold rowOk at h
  exact h

/-- Thirty-four rows from `a` on. -/
theorem rows_from (a : ℕ) (h : ∀ x : Fin 34, rowOk (a + x.val)) (r : ℕ) (h1 : a ≤ r) (h2 : r < a + 34) : rowOk r := by
  have e : a + (r - a) = r := by omega
  have h' := h ⟨r - a, by omega⟩
  dsimp only at h'
  rwa [e] at h'

theorem row_ok (r : Fin 272) : rowOk r.val := by
  have hr := r.isLt
  rcases (by omega : r.val < 34 ∨ (34 ≤ r.val ∧ r.val < 68) ∨ (68 ≤ r.val ∧ r.val < 102) ∨ (102 ≤ r.val ∧ r.val < 136) ∨ (136 ≤ r.val ∧ r.val < 170)
    ∨ (170 ≤ r.val ∧ r.val < 204) ∨ (204 ≤ r.val ∧ r.val < 238) ∨ 238 ≤ r.val) with h | h | h | h | h | h | h | h
  · exact rows_from 0 (fun x => rowOk_of (lit_part0 x)) _ (Nat.zero_le _) (lt_of_lt_of_le h (by decide))
  · exact rows_from 34 (fun x => rowOk_of (lit_part1 x)) _ h.1 (lt_of_lt_of_le h.2 (by decide))
  · exact rows_from 68 (fun x => rowOk_of (lit_part2 x)) _ h.1 (lt_of_lt_of_le h.2 (by decide))
  · exact rows_from 102 (fun x => rowOk_of (lit_part3 x)) _ h.1 (lt_of_lt_of_le h.2 (by decide))
  · exact rows_from 136 (fun x => rowOk_of (lit_part4 x)) _ h.1 (lt_of_lt_of_le h.2 (by decide))
  · exact rows_from 170 (fun x => rowOk_of (lit_part5 x)) _ h.1 (lt_of_lt_of_le h.2 (by decide))
  · exact rows_from 204 (fun x => rowOk_of (lit_part6 x)) _ h.1 (lt_of_lt_of_le h.2 (by decide))
  · exact rows_from 238 (fun x => rowOk_of (lit_part7 x)) _ h (lt_of_lt_of_le hr (by decide))

/-- An entry of the selection. -/
@[irreducible] def selEntry (i : Fin 73984) : EReal := Ideal.ofBits .f32 (lit0 i)

theorem selEntry_at (r n : Fin 272) :
    selEntry ⟨(r.val * 272 + n.val) % 73984, Nat.mod_lt _ (by decide)⟩ = if n.val = (if r.val < 136 then 2 * r.val else 2 * (r.val - 136) + 1) then (1 : EReal) else 0 := by
  unfold selEntry
  refine (congrArg (Ideal.ofBits .f32) (litRow_of (row_ok r) n)).trans ?_
  rw [apply_ite (Ideal.ofBits .f32)]
  refine if_congr Iff.rfl ?_ ?_
  · simp [Ideal.ofBits, Ideal.ieee, -EReal.coe_mul]
    norm_num
  · simp [Ideal.ofBits, Ideal.ieee]

end Cert.Kernel5Ideal.Att

end
-- ==== Proof.AttChan.lean ====
module

public import proofs.«01_k».proof.Proof.AttBlocks
public import proofs.«01_k».proof.Proof.AttOut
public import proofs.«01_k».proof.Proof.AttLitRow

@[expose] public section

set_option maxRecDepth 16384

noncomputable section

open Idealize.ShloMosaic Idealize.ShloMosaic.TcCoe Idealize.SL.Sem
open Idealize.ShloMosaic.Pipeline (Dat)

namespace Cert.Kernel5Ideal.Att

open Cert.Kernel5Ideal Cert.Kernel5Ideal.Gen Cert.Att

variable (m : (ℓ : Loc nD τ sig) → Buf (Elt Ideal) ℓ)

theorem p_at (c : Dev nD) (t : Fin cfg0.N) (n : Fin 272) (k : Fin 512) (r : Fin 8704) (hr : r.val = t.val * 272 + n.val) :
    (iblk m c 3 t : FVec Ideal S272x512 .bf16) (ix2 n k)
      = (m ((c.tc : Thread nD τ).loc main_arg3) : FVec Ideal S8704x9216 .bf16) (ix2 r (⟨6144 + k.val, by omega⟩ : Fin 9216)) := by
  blk_simp [iblk]
  entry_read
  blk_ext [(idx1 t).1]

theorem w_at (c : Dev nD) (t : Fin cfg0.N) (k : Fin 512) (j : Fin 1024) :
    (iblk m c 4 t : FVec Ideal S512x1024 .bf16) (ix2 k j) = (m ((c.tc : Thread nD τ).loc main_arg4) : FVec Ideal S512x1024 .bf16) (ix2 k j) := by
  blk_simp [iblk]
  entry_read
  blk_ext [(idx1 t).2.1]

/-- The selection as the host holds it. -/
theorem sel_eq (c : Dev nD) : V m c main_v18 = (truncf .bf16 (fun i => selEntry (S272x272.rowMajor i) : FVec Ideal S272x272 .f32) bitsLt_bf16_f32 : FVec Ideal S272x272 .bf16) := by
  unfold selEntry
  rfl

theorem sel_at (c : Dev nD) (t : Fin cfg0.N) (r n : Fin 272) :
    (iblk m c 5 t : FVec Ideal S272x272 .bf16) (ix2 r n)
      = if n.val = (if r.val < 136 then 2 * r.val else 2 * (r.val - 136) + 1) then (1 : EReal) else 0 := by
  blk_simp [iblk]
  rw [sel_eq]
  have he : (win0_5.blk t).view.emb (ix2 r n) = (ix2 r n : S272x272.Idx) := by
    blk_ext [(idx1 t).2.2.1]
  have hr := r.isLt
  have hn := n.isLt
  have hi : S272x272.rowMajor (ix2 r n) = ⟨(r.val * 272 + n.val) % 73984, Nat.mod_lt _ (by decide)⟩ := by
    refine Fin.ext ((Shape.rowMajor_val_two _).trans ?_)
    show r.val * 272 + n.val = (r.val * 272 + n.val) % 73984
    omega
  refine Eq.trans (b := selEntry (S272x272.rowMajor ((win0_5.blk t).view.emb (ix2 r n)))) rfl ?_
  rw [he, hi]
  exact selEntry_at r n

/-- One entry of the projection of the channel columns. -/
def chanSum (p : FVec Ideal S8704x9216 .bf16) (w : FVec Ideal S512x1024 .bf16) (z : Fin 8704) (j : Fin 1024) : EReal :=
  ∑ k : Fin 512, p (ix2 z (⟨6144 + k.val, by omega⟩ : Fin 9216)) * w (ix2 k j)

/-- A row of the selection times the projected rows is the projected row it picks. -/
theorem chanEntry_at (c : Dev nD) (t : Fin cfg0.N) (r : Fin 272) (j : Fin 1024) (n : Fin 272) (hn : n.val = if r.val < 136 then 2 * r.val else 2 * (r.val - 136) + 1)
    (z : Fin 8704) (hz : z.val = t.val * 272 + n.val) :
    chanEntry (iblk m c 3 t) (iblk m c 4 t) (iblk m c 5 t) r j = chanSum (m ((c.tc : Thread nD τ).loc main_arg3)) (m ((c.tc : Thread nD τ).loc main_arg4)) z j := by
  unfold chanEntry chanSum
  rw [Finset.sum_eq_single n]
  · rw [sel_at, if_pos hn, one_mul]
    exact Finset.sum_congr rfl fun k _ => congrArg₂ (fun a b : EReal => a * b) (p_at m c t n k z hz) (w_at m c t k j)
  · intro n' _ hne
    rw [sel_at, if_neg fun e => hne (Fin.ext (e.trans hn.symm)), zero_mul]
  · exact fun h => absurd (Finset.mem_univ _) h

/-- The channel projection, its rows split by parity. -/
def chan (p : FVec Ideal S8704x9216 .bf16) (w : FVec Ideal S512x1024 .bf16) : FVec Ideal S2x4352x1024 .bf16 := fun y =>
  chanSum p w (⟨(y 1).val * 2 + (y 2).val / 512, by have h1 : (y 1).val < 4352 := (y 1).isLt; have h2 : (y 2).val < 1024 := (y 2).isLt; omega⟩ : Fin 8704)
    (⟨(y 0).val * 512 + (y 2).val % 512, by have h0 : (y 0).val < 2 := (y 0).isLt; omega⟩ : Fin 1024)

theorem chan_tile (c : Dev nD) (t : Fin cfg0.N) (y : S2x136x1024.Idx) (z : S2x4352x1024.Idx)
    (h0 : (z 0 : ℕ) = (y 0 : ℕ)) (h1 : (z 1 : ℕ) = t.val * 136 + (y 1 : ℕ)) (h2 : (z 2 : ℕ) = (y 2 : ℕ)) :
    (outsAt0 m c t).2.1 y = chan (m ((c.tc : Thread nD τ).loc main_arg3)) (m ((c.tc : Thread nD τ).loc main_arg4)) z := by
  have hN := lt_of_lt_of_eq t.isLt (show cfg0.N = 32 from N_0)
  have y0 : (y 0).val < 2 := (y 0).isLt
  have y1 : (y 1).val < 136 := (y 1).isLt
  have y2 : (y 2).val < 1024 := (y 2).isLt
  have z1 : (z 1).val < 4352 := (z 1).isLt
  have z2 : (z 2).val < 1024 := (z 2).isLt
  rw [out14_eq]
  refine (chanStored_at _ _ _ y (⟨(y 2).val / 512 * 136 + (y 1).val, by omega⟩ : Fin 272) (⟨(y 0).val * 512 + (y 2).val % 512, by omega⟩ : Fin 1024) rfl rfl).trans ?_
  refine (pay10_at _ _ _ _ _).trans ?_
  refine (chanEntry_at m c t _ _ (⟨2 * (y 1).val + (y 2).val / 512, by omega⟩ : Fin 272) (by dsimp only; split_ifs <;> omega)
    (⟨(z 1).val * 2 + (z 2).val / 512, by omega⟩ : Fin 8704) (by dsimp only; omega)).trans ?_
  unfold chan
  refine congrArg (chanSum _ _ _) (Fin.ext ?_)
  show (y 0).val * 512 + (y 2).val % 512 = (z 0).val * 512 + (z 2).val % 512
  omega

/-- The array of the channel projection that the call returns. -/
theorem final_chan (c : Dev nD) : (dats m 0 c).arrAt 14 cfg0.N = chan (m ((c.tc : Thread nD τ).loc main_arg3)) (m ((c.tc : Thread nD τ).loc main_arg4)) := by
  refine (dats m 0 c).arrAt_eq_of_covers 14 _ (by decide +kernel) fun t hf y => ?_
  blk_simp
  rw [after0_14]
  refine chan_tile m c t y _ ?_ ?_ ?_
  · blk_simp [(idx1 t).2.2.2]
  · blk_simp [(idx1 t).2.2.2]
  · blk_simp [(idx1 t).2.2.2]

end Cert.Kernel5Ideal.Att

end
-- ==== Proof.AttPair.lean ====
module

public import proofs.«01_k».proof.Defs
public import proofs.«01_k».proof.Proof.AttRef
public import proofs.«01_k».proof.Proof.AttValue
public import proofs.«01_k».proof.Proof.AttWeights
public import proofs.«01_k».proof.Proof.AttChan
public import proofs.«01_k».proof.Proof.Gen.Reference5Ideal.Run
public import Idealize.ShloMosaic.Adequacy
public import Idealize.ShloMosaic.Init
public import Idealize.ShloMosaic.Lib.Tactic.ValueTie

@[expose] public section

set_option maxRecDepth 16384

noncomputable section

open Idealize.ShloMosaic Idealize.ShloMosaic.TcCoe Idealize.SL.Sem

namespace Cert.Proof

/-- The side conditions of the precondition. -/
instance finiteFacts : Cert.Pre_finite.Facts where
  bcast_S_S8704x8x192 := by decide +kernel
  bcast_S_S2x4352x8x192 := by decide +kernel

open Cert.Att Cert.Kernel5Ideal.Att Cert.Reference5Ideal.Att

/-- A number whose absolute value compares below plus infinity is real. -/
theorem real_of_cmp {x : EReal} (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  refine real_of_abs ?_
  by_contra hn
  simp [Ideal.cmp, hn] at h

/-- The reference's attention is the softmax-weighted sum of the values. -/
theorem attR_eq (q : FVec Ideal Cert.Reference5Ideal.S8704x8x192 .f32) (k : FVec Ideal Cert.Reference5Ideal.S2x4352x8x192 .f32) (v : FVec Ideal Cert.Reference5Ideal.S2x4352x8x128 .f32) :
    attR q k v = att q k v := by
  funext y
  obtain ⟨n, c, rfl⟩ : ∃ n c, y = ix2 n c := ⟨y 0, y 1, by funext a; fin_cases a <;> rfl⟩
  have hn := n.isLt
  refine (attR_at q k v n c).trans ((wtR_soft _ _ _ _ _).trans ?_)
  unfold att attEntry
  refine congrArg (fun s => softAt s _) (funext fun j => ?_)
  exact scR_at q k _ _ _ j _ (by show n.val = n.val / 4096 * 4096 + n.val % 4096; omega)

theorem chanR_eq (p : FVec Ideal Cert.Reference5Ideal.S8704x9216 .bf16) (w : FVec Ideal Cert.Reference5Ideal.S512x1024 .bf16) : chanR p w = chan p w := by
  funext y
  obtain ⟨a, n, j, rfl⟩ : ∃ a n j, y = ix3 a n j := ⟨y 0, y 1, y 2, by funext a; fin_cases a <;> rfl⟩
  exact chanR_at p w a n j

/-- `att` respects equality of its arguments. -/
theorem att_congr {q q' k k' v v'} (h0 : q = q') (h1 : k = k') (h2 : v = v') : att q k v = att q' k' v' := by
  subst h0 h1 h2; rfl

/-- `chan` respects equality of its arguments. -/
theorem chan_congr {p p' w w'} (h0 : p = p') (h1 : w = w') : chan p w = chan p' w' := by
  subst h0 h1; rfl

set_option maxHeartbeats 4000000 in
/-- The latent attention of the first layer: the two programs end with equal results when the queries and keys are finite. -/
theorem att_pair : algebraic_Kernel5Ideal_Reference5Ideal_pre_finite := by
  intro m g m' g' hpre hagree
  have hq : ∀ (c : Dev Cert.Kernel5Ideal.nD) i, ∃ x : ℝ, (m ((c.tc : Thread Cert.Kernel5Ideal.nD Cert.Kernel5Ideal.τ).loc Cert.Kernel5Ideal.main_arg0) : FVec Ideal Cert.Kernel5Ideal.S8704x8x192 .f32) i = (x : EReal) :=
    fun c i => real_of_cmp (congrFun (hpre c).1 i)
  have hk : ∀ (c : Dev Cert.Kernel5Ideal.nD) i, ∃ x : ℝ, (m ((c.tc : Thread Cert.Kernel5Ideal.nD Cert.Kernel5Ideal.τ).loc Cert.Kernel5Ideal.main_arg1) : FVec Ideal Cert.Kernel5Ideal.S2x4352x8x192 .f32) i = (x : EReal) :=
    fun c i => real_of_cmp (congrFun (hpre c).2 i)
  refine ⟨fun c => att (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    fun c => chan (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    fun c => first (m ((c.tc : Thread Cert.Kernel5Ideal.nD Cert.Kernel5Ideal.τ).loc Cert.Kernel5Ideal.main_arg5)),
    fun c => first (m ((c.tc : Thread Cert.Kernel5Ideal.nD Cert.Kernel5Ideal.τ).loc Cert.Kernel5Ideal.main_arg6)),
    fun c => first (m ((c.tc : Thread Cert.Kernel5Ideal.nD Cert.Kernel5Ideal.τ).loc Cert.Kernel5Ideal.main_arg7)),
    fun c => first (m ((c.tc : Thread Cert.Kernel5Ideal.nD Cert.Kernel5Ideal.τ).loc Cert.Kernel5Ideal.main_arg8)),
    fun c => first (m ((c.tc : Thread Cert.Kernel5Ideal.nD Cert.Kernel5Ideal.τ).loc Cert.Kernel5Ideal.main_arg9)),
    fun c => first (m ((c.tc : Thread Cert.Kernel5Ideal.nD Cert.Kernel5Ideal.τ).loc Cert.Kernel5Ideal.main_arg10)),
    fun c => first (m ((c.tc : Thread Cert.Kernel5Ideal.nD Cert.Kernel5Ideal.τ).loc Cert.Kernel5Ideal.main_arg11)),
    ?_, ?_⟩
  · refine Idealize.ShloMosaic.θ_run_mono (Idealize.ShloMosaic.θ_run_and (Cert.Kernel5Ideal.Gen.run_main m g) (Cert.Kernel5Ideal.Gen.unchanged m g)) ?_
    intro r hr c
    have hc := hr.1 c
    obtain ⟨w15, w16, w17, w18, w19, w20, w21⟩ := final_w m c
    exact ⟨(hc.1 13).trans (final_att m c (hq c) (hk c)), (hc.1 14).trans (final_chan m c), (hc.1 15).trans w15, (hc.1 16).trans w16, (hc.1 17).trans w17,
      (hc.1 18).trans w18, (hc.1 19).trans w19, (hc.1 20).trans w20, (hc.1 21).trans w21, hr.2 c⟩
  · refine Idealize.ShloMosaic.θ_run_mono (Cert.Reference5Ideal.Value.run m' g') ?_
    intro r hr c
    obtain ⟨r0, r1, r2, r3, r4, r5, r6, r7, r8, hargs⟩ := hr c
    obtain ⟨a0, a1, a2, a3, a4, a5, a6, a7, a8, a9, a10, a11⟩ := hagree c
    refine ⟨r0.trans ?_, r1.trans ?_, r2.trans ?_, r3.trans ?_, r4.trans ?_, r5.trans ?_, r6.trans ?_, r7.trans ?_, r8.trans ?_, hargs⟩
    · exact (attR_eq _ _ _).trans (att_congr a0 a1 a2)
    · exact (chanR_eq _ _).trans (chan_congr a3 a4)
    all_goals
      simp only [a5, a6, a7, a8, a9, a10, a11]
      unfold first
      funext y
      pointwise

end Cert.Proof

end
-- ==== Proof.SecondScratch.lean ====
module

public import proofs.«01_k».proof.Proof.Gen.Kernel6Ideal.Frame
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.InSecond

open Cert.Kernel6Ideal Cert.Kernel6Ideal.Gen

variable (m : (ℓ : Loc nD τ sig) → Buf (Elt Ideal) ℓ)

/-- The weight rows of a tile that the kernel keeps as they are. -/
def plainRows (B : FVec Ideal S1x1536x2048 .f32) : FVec Ideal S1536x2048 .bf16 := fun y =>
  B (ix3 (0 : Fin 1) (y 0) (y 1))

/-- The weight rows of the tile that the kernel rearranges: the first 1344 rows stay, the two halves of the
    shared rotary key come again in the other order, and the rest is zero. -/
def packedRows (B : FVec Ideal S1x1536x2048 .f32) : FVec Ideal S1536x2048 .bf16 := fun y =>
  if (y 0 : ℕ) < 1344 then B (ix3 (0 : Fin 1) (y 0) (y 1))
  else if (y 0 : ℕ) < 1408 then 0
  else if (y 0 : ℕ) < 1440 then B (ix3 (0 : Fin 1) ⟨(y 0 : ℕ) - 96, by have h := (y 0).isLt; dsimp at h; omega⟩ (y 1))
  else if (y 0 : ℕ) < 1472 then B (ix3 (0 : Fin 1) ⟨(y 0 : ℕ) - 160, by have h := (y 0).isLt; dsimp at h; omega⟩ (y 1))
  else 0

theorem idx1 : ∀ t : Fin cfg0.N, win0_0.index t = ![t.val % 8, 0] ∧ win0_2.index t = ![1, 0, t.val / 8]
    ∧ win0_3.index t = ![t.val % 8, t.val / 8] :=
  (by decide +kernel : ∀ t : Fin grid0.N, _)

/-- What a point stores into its output tile, column chunk by column chunk, from its rows, the packed weights and the bias. -/
def outTile (i : grid0.Coords) (h : FVec Ideal S1088x2048 .bf16) (s : FVec Ideal S1536x2048 .bf16)
    (b : FVec Ideal S1x1x1536 .f32) : FVec Ideal S1088x1536 .bf16 :=
  View.canon (Val := Elt Ideal) (s := S1088x1536) (e := .bf16) [⟨Rect.unit ![0, 1024] ![1088, 512] inb_S1088x1536_S1088x512_0_1024,
      k0_pay2 (F := Ideal) (Scalar.cmpi CmpIPredicate.slt (BitVec.ofNat 32 ↑(i 0)) 4#32) h
        (View.ld (Val := Elt Ideal) (e' := .bf16) s (Rect.unit ![1024, 0] ![512, 2048] inb_S1536x2048_S512x2048_1024_0))
        (View.ld (Val := Elt Ideal) (e' := .f32) b (Rect.unit ![0, 0, 1024] ![1, 1, 512] inb_S1x1x1536_S1x1x512_0_0_1024))⟩,
    ⟨Rect.unit ![0, 512] ![1088, 512] inb_S1088x1536_S1088x512_0_512,
      k0_pay1 (F := Ideal) (Scalar.cmpi CmpIPredicate.slt (BitVec.ofNat 32 ↑(i 0)) 4#32)
        (k0_pay10 (F := Ideal) h (View.ld (Val := Elt Ideal) (e' := .bf16) s (Rect.unit ![512, 0] ![512, 2048] inb_S1536x2048_S512x2048_512_0))
          (View.ld (Val := Elt Ideal) (e' := .f32) b (Rect.unit ![0, 0, 512] ![1, 1, 512] inb_S1x1x1536_S1x1x512_0_0_512)))
        (k0_pay11 (F := Ideal) h (View.ld (Val := Elt Ideal) (e' := .bf16) s (Rect.unit ![512, 0] ![512, 2048] inb_S1536x2048_S512x2048_512_0))
          (View.ld (Val := Elt Ideal) (e' := .f32) b (Rect.unit ![0, 0, 512] ![1, 1, 512] inb_S1x1x1536_S1x1x512_0_0_512)))⟩,
    ⟨Rect.unit ![0, 0] ![1088, 512] inb_S1088x1536_S1088x512_0_0,
      k0_pay9 (F := Ideal) i h (View.ld (Val := Elt Ideal) (e' := .bf16) s (Rect.unit ![0, 0] ![512, 2048] inb_S1536x2048_S512x2048_0_0))
        (View.ld (Val := Elt Ideal) (e' := .f32) b (Rect.unit ![0, 0, 0] ![1, 1, 512] inb_S1x1x1536_S1x1x512_0_0_0))⟩]

theorem pay8_at (B : FVec Ideal S1x1536x2048 .f32) (y) : k0_pay8 B y = plainRows B y := by
  pointwise [k0_pay8, plainRows]

theorem scrA (c : Dev nD) (t : Fin cfg0.N) (h0 : t.val % 8 = 0) (h1 : ¬t.val / 8 % 6 = 4) (h2 : t.val / 8 % 6 ≠ 4) (y) :
    (outsAt0 m c t.val t.isLt).2 y = plainRows (iblk m c 1 t) y := by
  rw [outsAt0_A m c t h0 h1 h2]
  frame_out
  exact pay8_at _ y

theorem scrC (c : Dev nD) (t : Fin cfg0.N) (h0 : t.val % 8 = 0) (h1 : t.val / 8 % 6 = 4) (h2 : ¬t.val / 8 % 6 ≠ 4) (y) :
    (outsAt0 m c t.val t.isLt).2 y = packedRows (iblk m c 1 t) y := by
  rw [outsAt0_C m c t h0 h1 h2]
  frame_out
  canon_tiles x h using View.cover_of_tiledBy _ ![32, 2048] (by sl_kernel_rfl) y
  all_goals unfold packedRows
  case piece0 =>
    rw [if_neg (by omega), if_neg (by omega), if_neg (by omega), if_neg (by omega)]
    pointwise [k0_pay7]
  case piece1 =>
    rw [if_neg (by omega), if_neg (by omega), if_neg (by omega), if_pos (by omega)]
    pointwise [k0_pay6]
    blk_ext
  case piece2 =>
    rw [if_neg (by omega), if_neg (by omega), if_pos (by omega)]
    pointwise [k0_pay5]
    blk_ext
  case piece3 =>
    rw [if_neg (by omega), if_pos (by omega)]
    pointwise [k0_pay4]
  case piece4 =>
    rw [if_pos (by omega)]
    pointwise [k0_pay3]
    blk_ext

theorem outB (c : Dev nD) (t : Fin cfg0.N) (h0 : ¬t.val % 8 = 0) :
    (outsAt0 m c t.val t.isLt).1 = outTile (grid0.coords t) (iblk m c 0 t) (outsAt0 m c t.val t.isLt).2 (iblk m c 2 t) := by
  rw [outsAt0_B m c t h0]
  frame_out
  simp only [read_unread_whole]
  rfl

theorem outA (c : Dev nD) (t : Fin cfg0.N) (h0 : t.val % 8 = 0) (h1 : ¬t.val / 8 % 6 = 4) (h2 : t.val / 8 % 6 ≠ 4) :
    (outsAt0 m c t.val t.isLt).1 = outTile (grid0.coords t) (iblk m c 0 t) (outsAt0 m c t.val t.isLt).2 (iblk m c 2 t) := by
  rw [outsAt0_A m c t h0 h1 h2]
  frame_open
  simp (disch := decide) only [↓ View.readCov_skip, ↓ View.readCov_cons_toLoadRect, ↓ View.readCov_fill]
  frame_out

theorem outC (c : Dev nD) (t : Fin cfg0.N) (h0 : t.val % 8 = 0) (h1 : t.val / 8 % 6 = 4) (h2 : ¬t.val / 8 % 6 ≠ 4) :
    (outsAt0 m c t.val t.isLt).1 = outTile (grid0.coords t) (iblk m c 0 t) (outsAt0 m c t.val t.isLt).2 (iblk m c 2 t) := by
  rw [outsAt0_C m c t h0 h1 h2]
  frame_open
  simp only [View.readCov_eq_canon']
  frame_out

/-- The kernel's test of the tile's number, as a bit. -/
theorem gate_bit : ∀ n : Fin 6, Scalar.cmpi CmpIPredicate.slt (BitVec.ofNat 32 (n : ℕ)) 4#32 = if (n : ℕ) < 4 then 1#1 else 0#1 := by
  decide

/-- Where the tile is a gate the selected value is the logistic function of the row's product. -/
theorem gate_at (n : Fin 6) (z : EReal) :
    Scalar.select (Scalar.cmpi CmpIPredicate.slt (BitVec.ofNat 32 (n : ℕ)) 4#32) (Ideal.div 1 (1 + Ideal.exp (0 - z))) z
      = if (n : ℕ) < 4 then Ideal.logistic z else z := by
  rw [gate_bit n]
  by_cases h : (n : ℕ) < 4
  · rw [if_pos h, if_pos h]
    show Ideal.div 1 (1 + Ideal.exp (0 - z)) = Ideal.div 1 (1 + Ideal.exp (-z))
    rw [zero_sub]
  · rw [if_neg h, if_neg h]
    rfl

theorem outTile_at (i : grid0.Coords) (h : FVec Ideal S1088x2048 .bf16) (s : FVec Ideal S1536x2048 .bf16)
    (b : FVec Ideal S1x1x1536 .f32) (y : S1088x1536.Idx) : outTile i h s b y =
      if (i 0 : ℕ) < 4 then Ideal.logistic ((∑ k : Fin 2048, h (ix2 (y 0) k) * s (ix2 (y 1) k)) + b (ix3 (0 : Fin 1) (0 : Fin 1) (y 1)))
      else (∑ k : Fin 2048, h (ix2 (y 0) k) * s (ix2 (y 1) k)) + b (ix3 (0 : Fin 1) (0 : Fin 1) (y 1)) := by
  unfold outTile
  canon_tiles x h
  case piece0 =>
    pointwise [k0_pay2]
    refine (gate_at (i 0) _).trans ?_
    blk_point []
  case piece1 =>
    pointwise [k0_pay1, k0_pay10, k0_pay11]
    refine (gate_at (i 0) _).trans ?_
    blk_point []
  case piece2 =>
    pointwise [k0_pay9]
    refine (gate_at (i 0) _).trans ?_
    blk_point []

/-- The packed weights that every point of a column tile multiplies by. -/
theorem scratch_at (c : Dev nD) (t : Fin cfg0.N) (y) : (outsAt0 m c t.val t.isLt).2 y =
    if t.val / 8 = 4 then packedRows (iblk m c 1 ⟨8 * (t.val / 8), Pipeline.run_start_lt t⟩) y
    else plainRows (iblk m c 1 ⟨8 * (t.val / 8), Pipeline.run_start_lt t⟩) y := by
  have e := Pipeline.eq_of_write_hold_apply (fun n h => (outsAt0 m c n h).2) 8
    (fun t y => if t.val / 8 = 4 then packedRows (iblk m c 1 t) y else plainRows (iblk m c 1 t) y)
    (fun t h y => by
      have hN := lt_of_lt_of_eq t.isLt (show cfg0.N = 48 from N_0)
      by_cases h1 : t.val / 8 % 6 = 4
      · rw [if_pos (by omega)]; exact scrC m c t h h1 (by omega) y
      · rw [if_neg (by omega)]; exact scrA m c t h h1 h1 y)
    (fun t h y => by rw [outsAt0_B m c t h]; rfl) t y
  refine e.trans ?_
  have hN := lt_of_lt_of_eq t.isLt (show cfg0.N = 48 from N_0)
  have e4 : 8 * (t.val / 8) / 8 = t.val / 8 := by omega
  simp only [e4]

/-- Every point stores its tile from its rows and the packed weights. -/
theorem out_eq (c : Dev nD) (t : Fin cfg0.N) : (outsAt0 m c t.val t.isLt).1
    = outTile (grid0.coords t) (iblk m c 0 t) (outsAt0 m c t.val t.isLt).2 (iblk m c 2 t) := by
  have hN := lt_of_lt_of_eq t.isLt (show cfg0.N = 48 from N_0)
  by_cases h : t.val % 8 = 0
  · by_cases h1 : t.val / 8 % 6 = 4
    · exact outC m c t h h1 (by omega)
    · exact outA m c t h h1 h1
  · exact outB m c t h

end Cert.Kernel6Ideal.InSecond

end
-- ==== Proof.SecondValue.lean ====
module

public import proofs.«01_k».proof.Proof.SecondScratch
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.InSecond

open Cert.Kernel6Ideal Cert.Kernel6Ideal.Gen

/-- Row `r` of the normalised rows times column `q` of the second layer's input weights. -/
def proj (h : FVec Ideal S8704x2048 .bf16) (w : FVec Ideal S2x2048x9024 .f32) (r : Fin 8704) (q : ℕ) (hq : q < 9024) : EReal :=
  ∑ k : Fin 2048, h (ix2 r k) * w (ix3 (1 : Fin 2) k ⟨q, hq⟩)

/-- The packed projection, entry by entry: the gates first, then the latents and the shared rotary key, 64 zeros,
    the key's halves in the other order, 64 zeros, and the kernel-branch columns. -/
def packed (h : FVec Ideal S8704x2048 .bf16) (w : FVec Ideal S2x2048x9024 .f32) (b : FVec Ideal S2x6144 .f32) :
    FVec Ideal S8704x9216 .bf16 := fun y =>
  if h0 : (y 1 : ℕ) < 6144 then Ideal.logistic (proj h w (y 0) (2880 + (y 1 : ℕ)) (by omega) + b (ix2 (1 : Fin 2) ⟨(y 1 : ℕ), h0⟩))
  else if h1 : (y 1 : ℕ) < 7488 then proj h w (y 0) ((y 1 : ℕ) - 6144) (by omega)
  else if h2 : (y 1 : ℕ) < 7552 then 0
  else if h3 : (y 1 : ℕ) < 7584 then proj h w (y 0) ((y 1 : ℕ) - 6240) (by omega)
  else if h4 : (y 1 : ℕ) < 7616 then proj h w (y 0) ((y 1 : ℕ) - 6304) (by omega)
  else if h5 : (y 1 : ℕ) < 7680 then 0
  else proj h w (y 0) ((y 1 : ℕ) - 6336) (by have h := (y 1).isLt; dsimp at h; omega)

variable (m : (ℓ : Loc nD τ sig) → Buf (Elt Ideal) ℓ)

/-- The first weight column of each column tile. -/
def srcCol (j : ℕ) : ℕ := if j < 4 then 2880 + 1536 * j else if j = 4 then 0 else 1344

theorem idxW : ∀ t : Fin cfg0.N, win0_1.index t = ![1, srcCol (t.val / 8), 0] :=
  (by decide +kernel : ∀ t : Fin grid0.N, _)

theorem coord0 : ∀ t : Fin cfg0.N, ((grid0.coords t) 0 : ℕ) = t.val / 8 :=
  (by decide +kernel : ∀ t : Fin grid0.N, _)

theorem srcCol_le (j : ℕ) (hj : j < 6) : srcCol j + 1536 ≤ 9024 := by
  unfold srcCol; split_ifs <;> omega

/-- Where an entry of a point's weight block lies in the array. -/
theorem wemb (t : Fin cfg0.N) (y : S1x1536x2048.Idx) (a : Fin 3) :
    ((((View.whole main_v3).slice (win0_1.rect t)).emb y a : Fin _) : ℕ) = win0_1.index t a + (y a : ℕ) :=
  Idealize.ShloMosaic.ValueKit.view_emb_slice_whole_unit_val _ _ _ _ _ _

/-- The weight block of a point, entry by entry. -/
theorem wblock_at (c : Dev nD) (t : Fin cfg0.N) (e : Fin 1536) (k : Fin 2048) :
    (iblk m c 1 t : FVec Ideal S1x1536x2048 .f32) (ix3 (0 : Fin 1) e k)
      = (m ((c.tc : Thread nD τ).loc main_arg1) : FVec Ideal S2x2048x9024 .f32) (ix3 (1 : Fin 2) k ⟨srcCol (t.val / 8) + e.val, by
          have hN := lt_of_lt_of_eq t.isLt (show cfg0.N = 48 from N_0)
          have := srcCol_le (t.val / 8) (by omega); omega⟩) := by
  have hN := lt_of_lt_of_eq t.isLt (show cfg0.N = 48 from N_0)
  have hs := srcCol_le (t.val / 8) (by omega)
  blk_simp [iblk]
  entry_read
  pointwise
  refine congrArg _ (congr (congr (congrArg ix3 (Fin.ext ?_)) (Fin.ext ?_)) (Fin.ext ?_))
  · rw [wemb t, idxW t]; rfl
  · rw [wemb t, idxW t]; exact Nat.zero_add _
  · rw [wemb t, idxW t]; rfl

/-- The bias of a point, entry by entry. -/
theorem bias_at (c : Dev nD) (t : Fin cfg0.N) (e : Fin 1536) :
    (iblk m c 2 t : FVec Ideal S1x1x1536 .f32) (ix3 (0 : Fin 1) (0 : Fin 1) e)
      = if hj : 1536 * (t.val / 8) + e.val < 6144 then
          (m ((c.tc : Thread nD τ).loc main_arg2) : FVec Ideal S2x6144 .f32) (ix2 (1 : Fin 2) ⟨1536 * (t.val / 8) + e.val, hj⟩)
        else (0 : EReal) := by
  have hN := lt_of_lt_of_eq t.isLt (show cfg0.N = 48 from N_0)
  blk_simp [iblk]
  entry_read
  pointwise
  have e2 : ((((View.whole main_v2).slice (win0_2.rect t)).emb (ix3 (0 : Fin 1) (0 : Fin 1) e) 2 : Fin 9216) : ℕ) = 1536 * (t.val / 8) + e.val := by
    blk_simp [(idx1 t).2.1]
    omega
  by_cases hj : 1536 * (t.val / 8) + e.val < 6144
  · rw [dif_pos hj, dif_pos (e2.trans_lt hj)]
    blk_ext [(idx1 t).2.1]
  · rw [dif_neg hj, dif_neg (fun h => hj (e2 ▸ h))]

/-- The rows of a point, entry by entry. -/
theorem rows_at (c : Dev nD) (t : Fin cfg0.N) (p : Fin 1088) (k : Fin 2048) (r : Fin 8704) (hr : r.val = t.val % 8 * 1088 + p.val) :
    (iblk m c 0 t : FVec Ideal S1088x2048 .bf16) (ix2 p k) = (m ((c.tc : Thread nD τ).loc main_arg0) : FVec Ideal S8704x2048 .bf16) (ix2 r k) := by
  blk_ext [iblk, V, (idx1 t).1]

/-- A sum of products against a packed weight row that is a row of the weights is that column of the projection. -/
theorem sum_row (c : Dev nD) (t : Fin cfg0.N) (p : Fin 1088) (r : Fin 8704) (hr : r.val = t.val % 8 * 1088 + p.val)
    (a : FVec Ideal S1088x2048 .bf16) (ha : a = iblk m c 0 t) (s : Fin 2048 → EReal) (e : Fin 1536) (t' : Fin cfg0.N) (hs : ∀ k, s k = (iblk m c 1 t' : FVec Ideal S1x1536x2048 .f32) (ix3 (0 : Fin 1) e k))
    (q : ℕ) (hq : q < 9024) (e' : srcCol (t'.val / 8) + e.val = q) :
    ∑ k : Fin 2048, a (ix2 p k) * s k
      = proj (m ((c.tc : Thread nD τ).loc main_arg0)) (m ((c.tc : Thread nD τ).loc main_arg1)) r q hq := by
  subst e' ha
  refine Finset.sum_congr rfl fun k _ => ?_
  rw [rows_at m c t p k r hr, hs k, wblock_at m c t' e k]

/-- Every output tile a point leaves is the packed projection under it. -/
theorem tile_at (c : Dev nD) (t : Fin cfg0.N) (y : S1088x1536.Idx) (z : S8704x9216.Idx)
    (h0 : (z 0 : ℕ) = t.val % 8 * 1088 + (y 0 : ℕ)) (h1 : (z 1 : ℕ) = t.val / 8 * 1536 + (y 1 : ℕ)) :
    (outsAt0 m c t.val t.isLt).1 y
      = packed (m ((c.tc : Thread nD τ).loc main_arg0)) (m ((c.tc : Thread nD τ).loc main_arg1)) (m ((c.tc : Thread nD τ).loc main_arg2)) z := by
  have hN := lt_of_lt_of_eq t.isLt (show cfg0.N = 48 from N_0)
  have hy : (y 1 : ℕ) < 1536 := (y 1).isLt
  rw [out_eq m c t, outTile_at, coord0 t, bias_at m c t (y 1)]
  have hs := fun k : Fin 2048 => scratch_at m c t (ix2 (y 1) k)
  have et : (⟨8 * (t.val / 8), Pipeline.run_start_lt t⟩ : Fin cfg0.N).val / 8 = t.val / 8 := by
    show 8 * (t.val / 8) / 8 = _
    omega
  have src : srcCol (t.val / 8) = if t.val / 8 < 4 then 2880 + 1536 * (t.val / 8) else if t.val / 8 = 4 then 0 else 1344 := rfl
  unfold packed
  by_cases g : t.val / 8 < 4
  · rw [if_pos g, dif_pos (by omega), dif_pos (by omega : (z 1 : ℕ) < 6144)]
    rw [if_pos g] at src
    congr 2
    · refine sum_row m c t (y 0) (z 0) h0 _ rfl _ (y 1) _ (fun k => (hs k).trans (if_neg (by omega))) _ _ ?_
      rw [et]; omega
    · exact congrArg _ (congrArg (ix2 (1 : Fin 2)) (Fin.ext (by show 1536 * (t.val / 8) + (y 1 : ℕ) = (z 1 : ℕ); omega)))
  · rw [if_neg g, dif_neg (by omega), dif_neg (by omega : ¬(z 1 : ℕ) < 6144), add_zero]
    rw [if_neg g] at src
    by_cases g4 : t.val / 8 = 4
    · rw [if_pos g4] at src
      have hp := fun k : Fin 2048 => (hs k).trans (if_pos g4)
      by_cases c1 : (y 1 : ℕ) < 1344
      · rw [dif_pos (by omega : (z 1 : ℕ) < 7488)]
        refine sum_row m c t (y 0) (z 0) h0 _ rfl _ (y 1) _ (fun k => (hp k).trans (if_pos c1)) _ _ ?_
        rw [et]; omega
      · rw [dif_neg (by omega : ¬(z 1 : ℕ) < 7488)]
        have hp1 := fun k : Fin 2048 => (hp k).trans (if_neg c1)
        by_cases c2 : (y 1 : ℕ) < 1408
        · rw [dif_pos (by omega : (z 1 : ℕ) < 7552)]
          exact Finset.sum_eq_zero fun k _ => by rw [(hp1 k).trans (if_pos c2)]; exact mul_zero _
        · rw [dif_neg (by omega : ¬(z 1 : ℕ) < 7552)]
          have hp2 := fun k : Fin 2048 => (hp1 k).trans (if_neg c2)
          by_cases c3 : (y 1 : ℕ) < 1440
          · rw [dif_pos (by omega : (z 1 : ℕ) < 7584)]
            refine sum_row m c t (y 0) (z 0) h0 _ rfl _ ⟨(y 1 : ℕ) - 96, by omega⟩ _ (fun k => (hp2 k).trans (if_pos c3)) _ _ ?_
            rw [et]; show srcCol (t.val / 8) + ((y 1 : ℕ) - 96) = _; omega
          · rw [dif_neg (by omega : ¬(z 1 : ℕ) < 7584)]
            have hp3 := fun k : Fin 2048 => (hp2 k).trans (if_neg c3)
            by_cases c4 : (y 1 : ℕ) < 1472
            · rw [dif_pos (by omega : (z 1 : ℕ) < 7616)]
              refine sum_row m c t (y 0) (z 0) h0 _ rfl _ ⟨(y 1 : ℕ) - 160, by omega⟩ _ (fun k => (hp3 k).trans (if_pos c4)) _ _ ?_
              rw [et]; show srcCol (t.val / 8) + ((y 1 : ℕ) - 160) = _; omega
            · rw [dif_neg (by omega : ¬(z 1 : ℕ) < 7616), dif_pos (by omega : (z 1 : ℕ) < 7680)]
              have hp4 := fun k : Fin 2048 => (hp3 k).trans (if_neg c4)
              exact Finset.sum_eq_zero fun k _ => by rw [hp4 k]; exact mul_zero _
    · rw [if_neg g4] at src
      rw [dif_neg (by omega : ¬(z 1 : ℕ) < 7488), dif_neg (by omega : ¬(z 1 : ℕ) < 7552), dif_neg (by omega : ¬(z 1 : ℕ) < 7584),
        dif_neg (by omega : ¬(z 1 : ℕ) < 7616), dif_neg (by omega : ¬(z 1 : ℕ) < 7680)]
      refine sum_row m c t (y 0) (z 0) h0 _ rfl _ (y 1) _ (fun k => (hs k).trans (if_neg g4)) _ _ ?_
      rw [et]; omega

/-- The array the call returns is the packed projection of its arguments. -/
theorem final (c : Dev nD) : (dats m 0 c).arrAt 3 cfg0.N
    = packed (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  refine tile_at m c t y _ ?_ ?_
  · blk_simp [(idx1 t).2.2]
  · blk_simp [(idx1 t).2.2]

end Cert.Kernel6Ideal.InSecond

end
-- ==== Proof.SecondPair.lean ====
module

public import proofs.«01_k».proof.Defs
public import proofs.«01_k».proof.Proof.SecondValue
public import proofs.«01_k».proof.Proof.InprojPair
public import Idealize.ShloMosaic.Adequacy
public import Idealize.ShloMosaic.Init
public import Idealize.ShloMosaic.Lib.Tactic.ValueTie

@[expose] public section

set_option maxRecDepth 16384

noncomputable section

open Idealize.ShloMosaic Idealize.ShloMosaic.TcCoe Idealize.SL.Sem

namespace Cert.Proof

/-- The second layer's input projection's two programs end with equal results: both with the packed projection of the arguments. -/
theorem second_pair : algebraic_Kernel6Ideal_Reference6Ideal := by
  pair_intro
  · run_from Cert.Kernel6Ideal.Gen.run_main m g
  · run_from Cert.Reference6Ideal.Value.run m' g'
    rw [(hagree c).2.2]
    refine Eq.trans ?_ (Cert.Kernel6Ideal.InSecond.final m c).symm
    funext y
    pointwise [Cert.Kernel6Ideal.InSecond.packed, Cert.Kernel6Ideal.InSecond.proj]
    refine dite_step Iff.rfl (fun _ _ => rfl) fun h0 _ => ?_
    refine dite_step (by omega) (fun _ _ => rfl) fun h1 _ => ?_
    refine dite_step (by omega) (fun _ _ => rfl) fun h2 _ => ?_
    refine dite_step (by omega) (fun _ _ => ?_) fun h3 _ => ?_
    · blk_point []
    refine dite_step (by omega) (fun _ _ => ?_) fun h4 _ => ?_
    · blk_point []
    refine dite_step (by omega) (fun _ _ => rfl) fun h5 _ => ?_
    blk_point []

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.InprojPair
public import proofs.«01_k».proof.Proof.FfnPair
public import proofs.«01_k».proof.Proof.FirstPair
public import proofs.«01_k».proof.Proof.MixPair
public import proofs.«01_k».proof.Proof.AttPair
public import proofs.«01_k».proof.Proof.SecondPair
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import Idealize.ShloMosaic.Adequacy
public import Idealize.ShloMosaic.Init
public import Idealize.ShloMosaic.Lib.Quiescent

@[expose] public section

noncomputable section

namespace Cert.Proof

open Idealize.ShloMosaic Idealize.SL.Sem

theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference2_quiescent : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3_quiescent : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem reference4_quiescent : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem reference5_quiescent : quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

theorem reference6_quiescent : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, finiteFacts,
  fun m ρ _ => Cert.Kernel.Gen.frame m ρ, fun m ρ _ => Cert.KernelIdeal.Gen.frame m ρ, reference_quiescent,
  fun m ρ _ => Cert.Kernel2.Gen.frame m ρ, fun m ρ _ => Cert.Kernel2Ideal.Gen.frame m ρ, reference2_quiescent,
  fun m ρ _ => Cert.Kernel3.Gen.frame m ρ, fun m ρ _ => Cert.Kernel3Ideal.Gen.frame m ρ, reference3_quiescent,
  fun m ρ _ => Cert.Kernel4.Gen.frame m ρ, fun m ρ _ => Cert.Kernel4Ideal.Gen.frame m ρ, reference4_quiescent,
  fun m ρ _ => Cert.Kernel5.Gen.frame m ρ, fun m ρ _ => Cert.Kernel5Ideal.Gen.frame m ρ, fun m ρ _ => Cert.Kernel5Ideal.Gen.frame m ρ,
  reference5_quiescent, fun m ρ _ => reference5_quiescent m ρ trivial,
  fun m ρ _ => Cert.Kernel6.Gen.frame m ρ, fun m ρ _ => Cert.Kernel6Ideal.Gen.frame m ρ, reference6_quiescent,
  (trivial : preserves_Kernel_KernelIdeal), inproj_pair,
  (trivial : preserves_Kernel2_Kernel2Ideal), ffn_pair,
  (trivial : preserves_Kernel3_Kernel3Ideal), first_pair,
  (trivial : preserves_Kernel4_Kernel4Ideal), mix_pair,
  (trivial : preserves_Kernel5_Kernel5Ideal), att_pair,
  (trivial : preserves_Kernel6_Kernel6Ideal), second_pair⟩

end Cert.Proof

end
